-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "sm_log2e" .f32 0x3DB8AA3B#32 (((1 / 16) * (Real.log 2)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v7) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3x640x3072 : Shape := ⟨3, ![3, 640, 3072]⟩
abbrev S3x640x512 : Shape := ⟨3, ![3, 640, 512]⟩
abbrev S3x640 : Shape := ⟨2, ![3, 640]⟩
abbrev S3x640x12x256 : Shape := ⟨4, ![3, 640, 12, 256]⟩
abbrev S_ : Shape := ⟨0, ![]⟩
abbrev S3x640x12 : Shape := ⟨3, ![3, 640, 12]⟩
abbrev S3x640x2x256 : Shape := ⟨4, ![3, 640, 2, 256]⟩
abbrev S3x640x2 : Shape := ⟨3, ![3, 640, 2]⟩

class Facts : Prop where
  bitsLt_bf16_f32 : FTy.bits .bf16 < FTy.bits .f32
  shapeCasts_S3x640x3072_S3x640x12x256 : S3x640x3072.ShapeCasts S3x640x12x256
  reducesTo_S3x640x12x256_S3x640x12_d3 : S3x640x12x256.ReducesTo [3] S3x640x12
  h_S_ : 0 < S_.numel
  bcast_S_S3x640x12 : S_.BroadcastsInDim S3x640x12 (![] : Fin 0 → Fin S3x640x12.rank)
  reducesTo_S3x640x12_S_d0_1_2 : S3x640x12.ReducesTo [0, 1, 2] S_
  shapeCasts_S3x640x512_S3x640x2x256 : S3x640x512.ShapeCasts S3x640x2x256
  reducesTo_S3x640x2x256_S3x640x2_d3 : S3x640x2x256.ReducesTo [3] S3x640x2
  bcast_S_S3x640x2 : S_.BroadcastsInDim S3x640x2 (![] : Fin 0 → Fin S3x640x2.rank)
  reducesTo_S3x640x2_S_d0_1_2 : S3x640x2.ReducesTo [0, 1, 2] S_

variable [Facts]

def fn_part2 {F : FTy → Type} [FloatOps F] (main_v26 : IVec S_ 1) (main_v30 : FVec F S3x640x2 .f32) (main_v32 : IVec S3x640x2 1) (main_v34 : IVec S3x640x2 1) : IVec S_ 1 :=
  let main_v35 : IVec S3x640x2 1 := ori main_v32 main_v34
  let main_cst_11 : FVec F S_ .f32 := constant S_ .f32 0x7F7F0000#32
  let main_v36 : FVec F S3x640x2 .f32 := broadcastInDim S3x640x2 ![] bcast_S_S3x640x2 main_cst_11
  let main_v37 : IVec S3x640x2 1 := cmpf .ole main_v30 main_v36
  let main_v38 : IVec S3x640x2 1 := andi main_v35 main_v37
  let main_c_12 : IVec S_ 1 := constantI S_ 1 1#1
  let main_v39 : IVec S_ 1 := (fun x v => Host.reduce IntOp.andi x v reducesTo_S3x640x2_S_d0_1_2 h_S_) main_v38 main_c_12
  let main_v40 : IVec S_ 1 := andi main_v26 main_v39
  main_v40

def fn_part1 {F : FTy → Type} [FloatOps F] (main_arg2 : FVec F S3x640x512 .bf16) (main_v12 : IVec S_ 1) (main_v16 : FVec F S3x640x2 .f32) (main_cst_4 : FVec F S_ .f32) : IVec S_ 1 :=
  let main_v17 : FVec F S3x640x2 .f32 := broadcastInDim S3x640x2 ![] bcast_S_S3x640x2 main_cst_4
  let main_v18 : IVec S3x640x2 1 := cmpf .oeq main_v16 main_v17
  let main_cst_5 : FVec F S_ .f32 := constant S_ .f32 0x04E00000#32
  let main_v19 : FVec F S3x640x2 .f32 := broadcastInDim S3x640x2 ![] bcast_S_S3x640x2 main_cst_5
  let main_v20 : IVec S3x640x2 1 := cmpf .oge main_v16 main_v19
  let main_v21 : IVec S3x640x2 1 := ori main_v18 main_v20
  let main_cst_6 : FVec F S_ .f32 := constant S_ .f32 0x7F7F0000#32
  let main_v22 : FVec F S3x640x2 .f32 := broadcastInDim S3x640x2 ![] bcast_S_S3x640x2 main_cst_6
  let main_v23 : IVec S3x640x2 1 := cmpf .ole main_v16 main_v22
  let main_v24 : IVec S3x640x2 1 := andi main_v21 main_v23
  let main_c_7 : IVec S_ 1 := constantI S_ 1 1#1
  let main_v25 : IVec S_ 1 := (fun x v => Host.reduce IntOp.andi x v reducesTo_S3x640x2_S_d0_1_2 h_S_) main_v24 main_c_7
  let main_v26 : IVec S_ 1 := andi main_v12 main_v25
  let main_v27 : FVec F S3x640x512 .f32 := (extf .f32 · bitsLt_bf16_f32) main_arg2
  let main_v28 : FVec F S3x640x2x256 .f32 := shapeCast S3x640x2x256 main_v27 shapeCasts_S3x640x512_S3x640x2x256
  let main_v29 : FVec F S3x640x2x256 .f32 := Host.absf main_v28
  let main_cst_8 : FVec F S_ .f32 := constant S_ .f32 0xFF800000#32
  let main_v30 : FVec F S3x640x2 .f32 := (fun x v => Host.reduce FloatOps.maximumf x v reducesTo_S3x640x2x256_S3x640x2_d3 h_S_) main_v29 main_cst_8
  let main_cst_9 : FVec F S_ .f32 := constant S_ .f32 0x00000000#32
  let main_v31 : FVec F S3x640x2 .f32 := broadcastInDim S3x640x2 ![] bcast_S_S3x640x2 main_cst_9
  let main_v32 : IVec S3x640x2 1 := cmpf .oeq main_v30 main_v31
  let main_cst_10 : FVec F S_ .f32 := constant S_ .f32 0x04E00000#32
  let main_v33 : FVec F S3x640x2 .f32 := broadcastInDim S3x640x2 ![] bcast_S_S3x640x2 main_cst_10
  let main_v34 : IVec S3x640x2 1 := cmpf .oge main_v30 main_v33
  fn_part2 (F := F) main_v26 main_v30 main_v32 main_v34

def fn {F : FTy → Type} [FloatOps F] (main_arg0 : FVec F S3x640x3072 .bf16) (main_arg1 : FVec F S3x640x512 .bf16) (main_arg2 : FVec F S3x640x512 .bf16) (main_arg3 : IVec S3x640 32) : IVec S_ 1 :=
  let main_v0 : FVec F S3x640x3072 .f32 := (extf .f32 · bitsLt_bf16_f32) main_arg0
  let main_v1 : FVec F S3x640x12x256 .f32 := shapeCast S3x640x12x256 main_v0 shapeCasts_S3x640x3072_S3x640x12x256
  let main_v2 : FVec F S3x640x12x256 .f32 := Host.absf main_v1
  let main_cst : FVec F S_ .f32 := constant S_ .f32 0xFF800000#32
  let main_v3 : FVec F S3x640x12 .f32 := (fun x v => Host.reduce FloatOps.maximumf x v reducesTo_S3x640x12x256_S3x640x12_d3 h_S_) main_v2 main_cst
  let main_cst_0 : FVec F S_ .f32 := constant S_ .f32 0x00000000#32
  let main_v4 : FVec F S3x640x12 .f32 := broadcastInDim S3x640x12 ![] bcast_S_S3x640x12 main_cst_0
  let main_v5 : IVec S3x640x12 1 := cmpf .oeq main_v3 main_v4
  let main_cst_1 : FVec F S_ .f32 := constant S_ .f32 0x06600000#32
  let main_v6 : FVec F S3x640x12 .f32 := broadcastInDim S3x640x12 ![] bcast_S_S3x640x12 main_cst_1
  let main_v7 : IVec S3x640x12 1 := cmpf .oge main_v3 main_v6
  let main_v8 : IVec S3x640x12 1 := ori main_v5 main_v7
  let main_cst_2 : FVec F S_ .f32 := constant S_ .f32 0x7F7F0000#32
  let main_v9 : FVec F S3x640x12 .f32 := broadcastInDim S3x640x12 ![] bcast_S_S3x640x12 main_cst_2
  let main_v10 : IVec S3x640x12 1 := cmpf .ole main_v3 main_v9
  let main_v11 : IVec S3x640x12 1 := andi main_v8 main_v10
  let main_c : IVec S_ 1 := constantI S_ 1 1#1
  let main_v12 : IVec S_ 1 := (fun x v => Host.reduce IntOp.andi x v reducesTo_S3x640x12_S_d0_1_2 h_S_) main_v11 main_c
  let main_v13 : FVec F S3x640x512 .f32 := (extf .f32 · bitsLt_bf16_f32) main_arg1
  let main_v14 : FVec F S3x640x2x256 .f32 := shapeCast S3x640x2x256 main_v13 shapeCasts_S3x640x512_S3x640x2x256
  let main_v15 : FVec F S3x640x2x256 .f32 := Host.absf main_v14
  let main_cst_3 : FVec F S_ .f32 := constant S_ .f32 0xFF800000#32
  let main_v16 : FVec F S3x640x2 .f32 := (fun x v => Host.reduce FloatOps.maximumf x v reducesTo_S3x640x2x256_S3x640x2_d3 h_S_) main_v15 main_cst_3
  let main_cst_4 : FVec F S_ .f32 := constant S_ .f32 0x00000000#32
  fn_part1 (F := F) main_arg2 main_v12 main_v16 main_cst_4
-- ==== Kernel.lean ====
abbrev S3x640x3072 : Shape := ⟨3, ![3, 640, 3072]⟩
abbrev S3x640x512 : Shape := ⟨3, ![3, 640, 512]⟩
abbrev S3x640 : Shape := ⟨2, ![3, 640]⟩
abbrev S3x1x640 : Shape := ⟨3, ![3, 1, 640]⟩
abbrev S3x12x640x256 : Shape := ⟨4, ![3, 12, 640, 256]⟩
abbrev S3x12x640 : Shape := ⟨3, ![3, 12, 640]⟩
abbrev S3x2x640x256 : Shape := ⟨4, ![3, 2, 640, 256]⟩
abbrev S3x2x640 : Shape := ⟨3, ![3, 2, 640]⟩
abbrev S1x640x3072 : Shape := ⟨3, ![1, 640, 3072]⟩
abbrev S1x640x512 : Shape := ⟨3, ![1, 640, 512]⟩
abbrev S1x1x640 : Shape := ⟨3, ![1, 1, 640]⟩
abbrev S1x12x640x256 : Shape := ⟨4, ![1, 12, 640, 256]⟩
abbrev S1x12x640 : Shape := ⟨3, ![1, 12, 640]⟩
abbrev S1x2x640x256 : Shape := ⟨4, ![1, 2, 640, 256]⟩
abbrev S1x2x640 : Shape := ⟨3, ![1, 2, 640]⟩
abbrev S2x256x640 : Shape := ⟨3, ![2, 256, 640]⟩
abbrev S2x640x128 : Shape := ⟨3, ![2, 640, 128]⟩
abbrev S640x128 : Shape := ⟨2, ![640, 128]⟩
abbrev S10x8x128 : Shape := ⟨3, ![10, 8, 128]⟩
abbrev S128x128 : Shape := ⟨2, ![128, 128]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S128x256x1 : Shape := ⟨3, ![128, 256, 1]⟩
abbrev S128x1x1 : Shape := ⟨3, ![128, 1, 1]⟩
abbrev S1x1x128x256 : Shape := ⟨4, ![1, 1, 128, 256]⟩
abbrev S1x128x128 : Shape := ⟨3, ![1, 128, 128]⟩
abbrev S256x128 : Shape := ⟨2, ![256, 128]⟩
abbrev S1x256x128 : Shape := ⟨3, ![1, 256, 128]⟩
abbrev S8x128 : Shape := ⟨2, ![8, 128]⟩
abbrev S8x256x128 : Shape := ⟨3, ![8, 256, 128]⟩
abbrev S8x1x128 : Shape := ⟨3, ![8, 1, 128]⟩
abbrev S2x128 : Shape := ⟨2, ![2, 128]⟩
abbrev S1x2x128 : Shape := ⟨3, ![1, 2, 128]⟩
abbrev S1x1x128 : Shape := ⟨3, ![1, 1, 128]⟩
abbrev S1x128 : Shape := ⟨2, ![1, 128]⟩
abbrev S64x1 : Shape := ⟨2, ![64, 1]⟩
abbrev S1x8x128 : Shape := ⟨3, ![1, 8, 128]⟩
abbrev S1x1x64 : Shape := ⟨3, ![1, 1, 64]⟩
abbrev S1x64 : Shape := ⟨2, ![1, 64]⟩
abbrev S64x128 : Shape := ⟨2, ![64, 128]⟩
abbrev S1x6x64x256 : Shape := ⟨4, ![1, 6, 64, 256]⟩
abbrev S6x64x256 : Shape := ⟨3, ![6, 64, 256]⟩
abbrev S384x256 : Shape := ⟨2, ![384, 256]⟩
abbrev S1x1x64x256 : Shape := ⟨4, ![1, 1, 64, 256]⟩
abbrev S64x256 : Shape := ⟨2, ![64, 256]⟩
abbrev S64x384 : Shape := ⟨2, ![64, 384]⟩
abbrev S1x64x128 : Shape := ⟨3, ![1, 64, 128]⟩
abbrev S1x256x64 : Shape := ⟨3, ![1, 256, 64]⟩
abbrev S256x64 : Shape := ⟨2, ![256, 64]⟩
abbrev S256x384 : Shape := ⟨2, ![256, 384]⟩
abbrev S1x384 : Shape := ⟨2, ![1, 384]⟩
abbrev S1x64x256 : Shape := ⟨3, ![1, 64, 256]⟩
abbrev S128x384 : Shape := ⟨2, ![128, 384]⟩
abbrev S192x128 : Shape := ⟨2, ![192, 128]⟩
abbrev S1x1x192x256 : Shape := ⟨4, ![1, 1, 192, 256]⟩
abbrev S192x256 : Shape := ⟨2, ![192, 256]⟩
abbrev S192x384 : Shape := ⟨2, ![192, 384]⟩
abbrev S1x192x128 : Shape := ⟨3, ![1, 192, 128]⟩
abbrev S1x256x192 : Shape := ⟨3, ![1, 256, 192]⟩
abbrev S256x192 : Shape := ⟨2, ![256, 192]⟩
abbrev S1x1x256x256 : Shape := ⟨4, ![1, 1, 256, 256]⟩
abbrev S256x256 : Shape := ⟨2, ![256, 256]⟩
abbrev S1x256x256 : Shape := ⟨3, ![1, 256, 256]⟩
abbrev S320x128 : Shape := ⟨2, ![320, 128]⟩
abbrev S1x1x320x256 : Shape := ⟨4, ![1, 1, 320, 256]⟩
abbrev S320x256 : Shape := ⟨2, ![320, 256]⟩
abbrev S320x384 : Shape := ⟨2, ![320, 384]⟩
abbrev S1x320x128 : Shape := ⟨3, ![1, 320, 128]⟩
abbrev S1x256x320 : Shape := ⟨3, ![1, 256, 320]⟩
abbrev S256x320 : Shape := ⟨2, ![256, 320]⟩
abbrev S384x128 : Shape := ⟨2, ![384, 128]⟩
abbrev S1x1x384x256 : Shape := ⟨4, ![1, 1, 384, 256]⟩
abbrev S384x384 : Shape := ⟨2, ![384, 384]⟩
abbrev S1x384x128 : Shape := ⟨3, ![1, 384, 128]⟩
abbrev S1x256x384 : Shape := ⟨3, ![1, 256, 384]⟩
abbrev S448x128 : Shape := ⟨2, ![448, 128]⟩
abbrev S1x1x448x256 : Shape := ⟨4, ![1, 1, 448, 256]⟩
abbrev S448x256 : Shape := ⟨2, ![448, 256]⟩
abbrev S448x384 : Shape := ⟨2, ![448, 384]⟩
abbrev S1x448x128 : Shape := ⟨3, ![1, 448, 128]⟩
abbrev S1x256x448 : Shape := ⟨3, ![1, 256, 448]⟩
abbrev S256x448 : Shape := ⟨2, ![256, 448]⟩
abbrev S512x128 : Shape := ⟨2, ![512, 128]⟩
abbrev S1x1x512x256 : Shape := ⟨4, ![1, 1, 512, 256]⟩
abbrev S512x256 : Shape := ⟨2, ![512, 256]⟩
abbrev S512x384 : Shape := ⟨2, ![512, 384]⟩
abbrev S1x512x128 : Shape := ⟨3, ![1, 512, 128]⟩
abbrev S1x256x512 : Shape := ⟨3, ![1, 256, 512]⟩
abbrev S256x512 : Shape := ⟨2, ![256, 512]⟩
abbrev S576x128 : Shape := ⟨2, ![576, 128]⟩
abbrev S1x1x576x256 : Shape := ⟨4, ![1, 1, 576, 256]⟩
abbrev S576x256 : Shape := ⟨2, ![576, 256]⟩
abbrev S576x384 : Shape := ⟨2, ![576, 384]⟩
abbrev S1x576x128 : Shape := ⟨3, ![1, 576, 128]⟩
abbrev S1x256x576 : Shape := ⟨3, ![1, 256, 576]⟩
abbrev S256x576 : Shape := ⟨2, ![256, 576]⟩
abbrev S1x1x640x256 : Shape := ⟨4, ![1, 1, 640, 256]⟩
abbrev S640x256 : Shape := ⟨2, ![640, 256]⟩
abbrev S640x384 : Shape := ⟨2, ![640, 384]⟩
abbrev S1x640x128 : Shape := ⟨3, ![1, 640, 128]⟩
abbrev S1x256x640 : Shape := ⟨3, ![1, 256, 640]⟩
abbrev S256x640 : Shape := ⟨2, ![256, 640]⟩
abbrev S3x640x12x256 : Shape := ⟨4, ![3, 640, 12, 256]⟩
abbrev S3x640x12 : Shape := ⟨3, ![3, 640, 12]⟩
abbrev S3x640x2x256 : Shape := ⟨4, ![3, 640, 2, 256]⟩
abbrev S3x640x2 : Shape := ⟨3, ![3, 640, 2]⟩

abbrev nBuf : Space → Nat
  | .hbm => 18
  | .vmem => 26
  | .smem => 0
  | _ => 0

abbrev bufTy : (tb : Table) → Fin (tcTables nBuf tb) → BufTy
  | .hbm, ⟨0, _⟩ => ⟨S3x640x3072, .bf16⟩
  | .hbm, ⟨1, _⟩ => ⟨S3x640x512, .bf16⟩
  | .hbm, ⟨2, _⟩ => ⟨S3x640x512, .bf16⟩
  | .hbm, ⟨3, _⟩ => ⟨S3x640, .i32⟩
  | .hbm, ⟨4, _⟩ => ⟨S3x1x640, .i32⟩
  | .hbm, ⟨5, _⟩ => ⟨S3x640x3072, .bf16⟩
  | .hbm, ⟨6, _⟩ => ⟨S3x12x640x256, .fp8e4m3⟩
  | .hbm, ⟨7, _⟩ => ⟨S3x12x640, .f32⟩
  | .hbm, ⟨8, _⟩ => ⟨S3x2x640x256, .fp8e4m3⟩
  | .hbm, ⟨9, _⟩ => ⟨S3x2x640, .f32⟩
  | .hbm, ⟨10, _⟩ => ⟨S3x2x640x256, .fp8e4m3⟩
  | .hbm, ⟨11, _⟩ => ⟨S3x2x640, .f32⟩
  | .hbm, ⟨12, _⟩ => ⟨S3x640x12x256, .fp8e4m3⟩
  | .hbm, ⟨13, _⟩ => ⟨S3x640x12, .f32⟩
  | .hbm, ⟨14, _⟩ => ⟨S3x640x2x256, .fp8e4m3⟩
  | .hbm, ⟨15, _⟩ => ⟨S3x640x2, .f32⟩
  | .hbm, ⟨16, _⟩ => ⟨S3x640x2x256, .fp8e4m3⟩
  | .hbm, ⟨17, _⟩ => ⟨S3x640x2, .f32⟩
  | .local _ .vmem, ⟨0, _⟩ => ⟨S1x640x3072, .bf16⟩
  | .local _ .vmem, ⟨1, _⟩ => ⟨S1x640x3072, .bf16⟩
  | .local _ .vmem, ⟨2, _⟩ => ⟨S1x640x512, .bf16⟩
  | .local _ .vmem, ⟨3, _⟩ => ⟨S1x640x512, .bf16⟩
  | .local _ .vmem, ⟨4, _⟩ => ⟨S1x640x512, .bf16⟩
  | .local _ .vmem, ⟨5, _⟩ => ⟨S1x640x512, .bf16⟩
  | .local _ .vmem, ⟨6, _⟩ => ⟨S1x1x640, .i32⟩
  | .local _ .vmem, ⟨7, _⟩ => ⟨S1x1x640, .i32⟩
  | .local _ .vmem, ⟨8, _⟩ => ⟨S1x640x3072, .bf16⟩
  | .local _ .vmem, ⟨9, _⟩ => ⟨S1x640x3072, .bf16⟩
  | .local _ .vmem, ⟨10, _⟩ => ⟨S1x12x640x256, .fp8e4m3⟩
  | .local _ .vmem, ⟨11, _⟩ => ⟨S1x12x640x256, .fp8e4m3⟩
  | .local _ .vmem, ⟨12, _⟩ => ⟨S1x12x640, .f32⟩
  | .local _ .vmem, ⟨13, _⟩ => ⟨S1x12x640, .f32⟩
  | .local _ .vmem, ⟨14, _⟩ => ⟨S1x2x640x256, .fp8e4m3⟩
  | .local _ .vmem, ⟨15, _⟩ => ⟨S1x2x640x256, .fp8e4m3⟩
  | .local _ .vmem, ⟨16, _⟩ => ⟨S1x2x640, .f32⟩
  | .local _ .vmem, ⟨17, _⟩ => ⟨S1x2x640, .f32⟩
  | .local _ .vmem, ⟨18, _⟩ => ⟨S1x2x640x256, .fp8e4m3⟩
  | .local _ .vmem, ⟨19, _⟩ => ⟨S1x2x640x256, .fp8e4m3⟩
  | .local _ .vmem, ⟨20, _⟩ => ⟨S1x2x640, .f32⟩
  | .local _ .vmem, ⟨21, _⟩ => ⟨S1x2x640, .f32⟩
  | .local _ .vmem, ⟨22, _⟩ => ⟨S2x256x640, .bf16⟩
  | .local _ .vmem, ⟨23, _⟩ => ⟨S2x640x128, .f32⟩
  | .local _ .vmem, ⟨24, _⟩ => ⟨S640x128, .i32⟩
  | .local _ .vmem, ⟨25, _⟩ => ⟨S10x8x128, .f32⟩
  | _, _ => ⟨S3x640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x640 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x640x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x12x640x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x12x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x640x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x640x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "sm_log2e" => some (((1 / 16) * (Real.log 2)⁻¹ : ℝ) : EReal)
  | _ => none
-- ==== ReferenceIdeal.lean ====
abbrev S3x640x3072 : Shape := ⟨3, ![3, 640, 3072]⟩
abbrev S3x640x512 : Shape := ⟨3, ![3, 640, 512]⟩
abbrev S3x640 : Shape := ⟨2, ![3, 640]⟩
abbrev S3x640x12x256 : Shape := ⟨4, ![3, 640, 12, 256]⟩
abbrev S3x640x12 : Shape := ⟨3, ![3, 640, 12]⟩
abbrev S3x640x2x256 : Shape := ⟨4, ![3, 640, 2, 256]⟩
abbrev S3x640x2 : Shape := ⟨3, ![3, 640, 2]⟩
abbrev S3x640x12x1 : Shape := ⟨4, ![3, 640, 12, 1]⟩
abbrev S3x640x2x1 : Shape := ⟨4, ![3, 640, 2, 1]⟩
abbrev S3x640x2x6x256 : Shape := ⟨5, ![3, 640, 2, 6, 256]⟩
abbrev S3x2x6x640x256 : Shape := ⟨5, ![3, 2, 6, 640, 256]⟩
abbrev S6x3840x256 : Shape := ⟨3, ![6, 3840, 256]⟩
abbrev S3x2x640x256 : Shape := ⟨4, ![3, 2, 640, 256]⟩
abbrev S6x640x256 : Shape := ⟨3, ![6, 640, 256]⟩
abbrev S6x3840x640 : Shape := ⟨3, ![6, 3840, 640]⟩
abbrev S3x2x6x640x640 : Shape := ⟨5, ![3, 2, 6, 640, 640]⟩
abbrev S3x640x2x6 : Shape := ⟨4, ![3, 640, 2, 6]⟩
abbrev S3x2x6x640 : Shape := ⟨4, ![3, 2, 6, 640]⟩
abbrev S3x2x6x640x1 : Shape := ⟨5, ![3, 2, 6, 640, 1]⟩
abbrev S3x2x640 : Shape := ⟨3, ![3, 2, 640]⟩
abbrev S3x2x1x1x640 : Shape := ⟨5, ![3, 2, 1, 1, 640]⟩
abbrev S3x640x640 : Shape := ⟨3, ![3, 640, 640]⟩
abbrev S3x640x1 : Shape := ⟨3, ![3, 640, 1]⟩
abbrev S3x1x640 : Shape := ⟨3, ![3, 1, 640]⟩
abbrev S3x1x1x640x640 : Shape := ⟨5, ![3, 1, 1, 640, 640]⟩

abbrev nBuf : Space → Nat
  | .hbm => 11
  | .vmem => 11
  | .smem => 0
  | _ => 0

abbrev bufTy : (tb : Table) → Fin (tcTables nBuf tb) → BufTy
  | .hbm, ⟨0, _⟩ => ⟨S3x640x3072, .bf16⟩
  | .hbm, ⟨1, _⟩ => ⟨S3x640x512, .bf16⟩
  | .hbm, ⟨2, _⟩ => ⟨S3x640x512, .bf16⟩
  | .hbm, ⟨3, _⟩ => ⟨S3x640, .i32⟩
  | .hbm, ⟨4, _⟩ => ⟨S3x640x3072, .bf16⟩
  | .hbm, ⟨5, _⟩ => ⟨S3x640x12x256, .fp8e4m3⟩
  | .hbm, ⟨6, _⟩ => ⟨S3x640x12, .f32⟩
  | .hbm, ⟨7, _⟩ => ⟨S3x640x2x256, .fp8e4m3⟩
  | .hbm, ⟨8, _⟩ => ⟨S3x640x2, .f32⟩
  | .hbm, ⟨9, _⟩ => ⟨S3x640x2x256, .fp8e4m3⟩
  | .hbm, ⟨10, _⟩ => ⟨S3x640x2, .f32⟩
  | .local _ .vmem, ⟨0, _⟩ => ⟨S3x640x3072, .bf16⟩
  | .local _ .vmem, ⟨1, _⟩ => ⟨S3x640x512, .bf16⟩
  | .local _ .vmem, ⟨2, _⟩ => ⟨S3x640x512, .bf16⟩
  | .local _ .vmem, ⟨3, _⟩ => ⟨S3x640, .i32⟩
  | .local _ .vmem, ⟨4, _⟩ => ⟨S3x640x3072, .bf16⟩
  | .local _ .vmem, ⟨5, _⟩ => ⟨S3x640x12x256, .fp8e4m3⟩
  | .local _ .vmem, ⟨6, _⟩ => ⟨S3x640x12, .f32⟩
  | .local _ .vmem, ⟨7, _⟩ => ⟨S3x640x2x256, .fp8e4m3⟩
  | .local _ .vmem, ⟨8, _⟩ => ⟨S3x640x2, .f32⟩
  | .local _ .vmem, ⟨9, _⟩ => ⟨S3x640x2x256, .fp8e4m3⟩
  | .local _ .vmem, ⟨10, _⟩ => ⟨S3x640x2, .f32⟩
  | _, _ => ⟨S3x640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "inv_e4m3_max" => some ((1 / 448 : ℝ) : EReal)
  | "inv_log2" => some (((Real.log 2)⁻¹ : ℝ) : EReal)
  | _ => none

abbrev grid0 : Pipeline.Grid := .none

abbrev stage0_0 : Fin 1 → Memref sig .tc .vmem S3x640x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x12x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x2x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x640x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x640x2x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x640x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Quant.lean ====
module

public import Idealize.ShloMosaic.Lib.Pipeline.ValueKit

@[expose] public section

set_option maxRecDepth 16384

noncomputable section

/-! The quantiser's scalar mathematics: the power-of-two scale a kernel finds by counting thresholds is the one that
a logarithm, a floor and a power give. -/

namespace Cert.Fp8

open Idealize.ShloMosaic

/-- The value of a positive normal `f32` pattern with exponent field `ex` and fraction `fr`. -/
theorem ofBits_f32 (b : BitVec 32) (ex fr : ℕ) (h : b.toNat = ex * 2 ^ 23 + fr) (hfr : fr < 2 ^ 23) (h0 : 0 < ex)
    (h1 : ex < 255) :
    Ideal.ofBits .f32 b = ((((2 ^ 23 + fr : ℕ) : ℝ) * (2 : ℝ) ^ ((ex : ℤ) - 150) : ℝ) : EReal) := by
  have e1 : (b.extractLsb' 23 8).toNat = ex := by
    rw [BitVec.extractLsb'_toNat, h, Nat.shiftRight_eq_div_pow]; omega
  have e2 : (b.extractLsb' 0 23).toNat = fr := by
    rw [BitVec.extractLsb'_toNat, h, Nat.shiftRight_eq_div_pow]; omega
  have e3 : (b.extractLsb' (8 + 23) 1 == 1#1) = false := by
    have : (b.extractLsb' (8 + 23) 1).toNat = 0 := by
      rw [BitVec.extractLsb'_toNat, h, Nat.shiftRight_eq_div_pow]; omega
    rw [beq_eq_false_iff_ne]; intro hh; rw [hh] at this; simp at this
  show Ideal.ieee 8 23 b = _
  unfold Ideal.ieee
  simp only [e1, e2, e3]
  rw [if_neg (by omega), if_neg (by omega)]
  congr 1
  have : ((ex : ℤ) - (2 ^ (8 - 1) - 1) - (23 : ℕ)) = (ex : ℤ) - 150 := by norm_num; ring
  rw [this]; simp

/-- The value of a positive `bf16` power of two with exponent field `ex`. -/
theorem ofBits_bf16 (b : BitVec 16) (ex : ℕ) (h : b.toNat = ex * 2 ^ 7) (h0 : 0 < ex) (h1 : ex < 255) :
    Ideal.ofBits .bf16 b = (((2 : ℝ) ^ ((ex : ℤ) - 127) : ℝ) : EReal) := by
  have e1 : (b.extractLsb' 7 8).toNat = ex := by
    rw [BitVec.extractLsb'_toNat, h, Nat.shiftRight_eq_div_pow]; omega
  have e2 : (b.extractLsb' 0 7).toNat = 0 := by
    rw [BitVec.extractLsb'_toNat, h, Nat.shiftRight_eq_div_pow]; omega
  have e3 : (b.extractLsb' (8 + 7) 1 == 1#1) = false := by
    have : (b.extractLsb' (8 + 7) 1).toNat = 0 := by
      rw [BitVec.extractLsb'_toNat, h, Nat.shiftRight_eq_div_pow]; omega
    rw [beq_eq_false_iff_ne]; intro hh; rw [hh] at this; simp at this
  show Ideal.ieee 8 7 b = _
  unfold Ideal.ieee
  simp only [e1, e2, e3]
  rw [if_neg (by omega), if_neg (by omega)]
  congr 1
  have : ((ex : ℤ) - 127) = 7 + ((ex : ℤ) - (2 ^ (8 - 1) - 1) - (7 : ℕ)) := by norm_num
  rw [this, zpow_add₀ (by norm_num)]; simp; left; norm_num

/-- The constant with these bits, as a number. -/
theorem ofBits_one32 : Ideal.ofBits .f32 1065353216#32 = 1 := by
  rw [ofBits_f32 _ 127 0 (by decide) (by norm_num) (by norm_num) (by norm_num)]
  rw [← EReal.coe_one]; congr 1; norm_num

/-- The constant with these bits, as a number. -/
theorem ofBits_one16 : Ideal.ofBits .bf16 16256#16 = 1 := by
  rw [ofBits_bf16 _ 127 (by decide) (by norm_num) (by norm_num)]
  rw [← EReal.coe_one]; congr 1

/-- The least magnitude whose rounded exponent field is `k`, as the kernel spells it. -/
def thr (k : ℕ) : EReal := Ideal.ofBits .f32 ((BitVec.ofNat 32 k) <<< 23 - 2097152#32)

/-- How many of the 255 thresholds a magnitude reaches. -/
def expo (a : EReal) : ℕ := ((Finset.range 256).filter fun k => 0 < k ∧ thr k ≤ a).card

/-- The count is below 256. -/
theorem expo_lt (a : EReal) : expo a < 256 := by
  have h : ((Finset.range 256).filter fun k => 0 < k ∧ thr k ≤ a) ⊆ (Finset.range 256).erase 0 := by
    intro k hk
    simp only [Finset.mem_filter, Finset.mem_range] at hk
    simp only [Finset.mem_erase, Finset.mem_range]
    exact ⟨by omega, hk.1⟩
  have := Finset.card_le_card h
  simp only [Finset.card_erase_of_mem (Finset.mem_range.2 (by norm_num : 0 < 256)), Finset.card_range] at this
  unfold expo; omega

/-- A small number shifted by 23 places, as a number. -/
theorem toNat_shl23 (k : ℕ) (hk : k < 256) : ((BitVec.ofNat 32 k) <<< 23).toNat = k * 2 ^ 23 := by
  rw [BitVec.toNat_shiftLeft, BitVec.toNat_ofNat, Nat.shiftLeft_eq]; omega

/-- From the second threshold on: seven quarters of a power of two. -/
theorem thr_eq (k : ℕ) (h2 : 2 ≤ k) (hk : k < 256) : thr k = (((7 / 4 : ℝ) * (2 : ℝ) ^ ((k : ℤ) - 128) : ℝ) : EReal) := by
  unfold thr
  rw [ofBits_f32 _ (k - 1) 6291456 ?_ (by norm_num) (by omega) (by omega)]
  · congr 1
    have : ((k - 1 : ℕ) : ℤ) - 150 = ((k : ℤ) - 128) + (-23) := by push_cast [show 1 ≤ k by omega]; ring
    rw [this, zpow_add₀ (by norm_num)]
    norm_num; ring
  · rw [BitVec.toNat_sub, toNat_shl23 k hk]; simp only [BitVec.toNat_ofNat]; omega

/-- The first threshold. -/
theorem thr_one : thr 1 = (((3 / 4 : ℝ) * (2 : ℝ) ^ (-126 : ℤ) : ℝ) : EReal) := by
  have hb : ((BitVec.ofNat 32 1) <<< 23 - 2097152#32) = 6291456#32 := by decide
  unfold thr
  rw [hb]
  show Ideal.ieee 8 23 (6291456#32) = _
  have e1 : ((6291456#32).extractLsb' 23 8).toNat = 0 := by decide
  have e2 : ((6291456#32).extractLsb' 0 23).toNat = 6291456 := by decide
  have e3 : ((6291456#32).extractLsb' (8 + 23) 1 == 1#1) = false := by decide
  unfold Ideal.ieee
  simp only [e1, e2, e3]
  rw [if_neg (by norm_num), if_pos (by trivial)]
  congr 1
  norm_num

/-- Every threshold is positive. -/
theorem thr_pos (k : ℕ) (h : 0 < k) (hk : k < 256) : 0 < thr k := by
  rcases Nat.lt_or_ge k 2 with h1 | h2
  · obtain rfl : k = 1 := by omega
    rw [thr_one]; exact_mod_cast (by positivity : (0 : ℝ) < 3 / 4 * 2 ^ (-126 : ℤ))
  · rw [thr_eq k h2 hk]; exact_mod_cast (by positivity : (0 : ℝ) < 7 / 4 * 2 ^ ((k : ℤ) - 128))

/-- Zero reaches no threshold. -/
theorem expo_zero : expo 0 = 0 := by
  unfold expo
  rw [Finset.card_eq_zero, Finset.filter_eq_empty_iff]
  intro k hk ⟨h0, h⟩
  exact absurd (thr_pos k h0 (Finset.mem_range.1 hk)) (not_lt.2 h)

/-- Between two thresholds the count is the index of the lower one. -/
theorem expo_eq (a : ℝ) (n : ℕ) (h2 : 2 ≤ n) (hn : n < 256) (lo : (7 / 4 : ℝ) * (2 : ℝ) ^ ((n : ℤ) - 128) ≤ a)
    (hi : a < (7 / 4 : ℝ) * (2 : ℝ) ^ ((n : ℤ) - 127)) : expo (a : EReal) = n := by
  unfold expo
  have : ((Finset.range 256).filter fun k => 0 < k ∧ thr k ≤ (a : EReal)) = Finset.Icc 1 n := by
    ext k
    simp only [Finset.mem_filter, Finset.mem_range, Finset.mem_Icc]
    constructor
    · rintro ⟨hk, h0, h⟩
      refine ⟨h0, ?_⟩
      by_contra hkn
      rw [thr_eq k (by omega) hk, EReal.coe_le_coe_iff] at h
      have : (2 : ℝ) ^ ((n : ℤ) - 127) ≤ (2 : ℝ) ^ ((k : ℤ) - 128) := zpow_le_zpow_right₀ (by norm_num) (by omega)
      nlinarith
    · rintro ⟨h1, hkn⟩
      refine ⟨by omega, h1, ?_⟩
      rcases Nat.lt_or_ge k 2 with hk1 | hk2
      · obtain rfl : k = 1 := by omega
        rw [thr_one, EReal.coe_le_coe_iff]
        refine le_trans ?_ lo
        have : (2 : ℝ) ^ (-126 : ℤ) ≤ (2 : ℝ) ^ ((n : ℤ) - 128) := zpow_le_zpow_right₀ (by norm_num) (by omega)
        have hp := zpow_pos (by norm_num : (0 : ℝ) < 2) (-126 : ℤ)
        revert this hp
        generalize (2 : ℝ) ^ (-126 : ℤ) = Y
        intro this hp
        linarith
      · rw [thr_eq k hk2 (by omega), EReal.coe_le_coe_iff]
        refine le_trans ?_ lo
        have : (2 : ℝ) ^ ((k : ℤ) - 128) ≤ (2 : ℝ) ^ ((n : ℤ) - 128) := zpow_le_zpow_right₀ (by norm_num) (by omega)
        nlinarith
  rw [this]; simp

/-- The kernel's scale of a magnitude. -/
def scaleK (a : EReal) : EReal :=
  Ideal.ofBits .f32 (if ((BitVec.ofNat 32 (expo a)) <<< 23).slt 83886080#32 then 1065353216#32
    else (BitVec.ofNat 32 (expo a)) <<< 23 - 67108864#32)

/-- The kernel's inverse scale of a magnitude. -/
def invK (a : EReal) : EReal :=
  Ideal.ofBits .bf16 (if (((BitVec.ofNat 32 (expo a)) <<< 7).setWidth 16).slt 1280#16 then 16256#16
    else 33536#16 - ((BitVec.ofNat 32 (expo a)) <<< 7).setWidth 16)

/-- The scale as the reference spells it: the exponent by logarithm and floor, zero for a zero magnitude. -/
def lg (a : EReal) : EReal :=
  if a = 0 then 0
  else Ideal.liftRound Int.floor (Ideal.log (a * ((1 / 448 : ℝ) : EReal)) * (((Real.log 2)⁻¹ : ℝ) : EReal)) + 1

/-- The scale of a zero row is one. -/
theorem scale_zero : scaleK 0 = 1 := by
  unfold scaleK; rw [expo_zero]
  rw [show (BitVec.ofNat 32 0 <<< 23).slt 83886080#32 = true by decide, if_pos rfl]
  exact ofBits_one32

/-- The inverse scale of a zero row is one. -/
theorem inv_zero : invK 0 = 1 := by
  unfold invK; rw [expo_zero]
  rw [show ((BitVec.ofNat 32 0 <<< 7).setWidth 16).slt 1280#16 = true by decide, if_pos rfl]
  exact ofBits_one16

/-- The scale is the power of two that the count names. -/
theorem scale_of_expo (a : EReal) (n : ℕ) (h : expo a = n) (h10 : 10 ≤ n) (hn : n < 256) :
    scaleK a = (((2 : ℝ) ^ ((n : ℤ) - 135) : ℝ) : EReal) := by
  unfold scaleK; rw [h]
  have hc : ((BitVec.ofNat 32 n) <<< 23).slt 83886080#32 = false := by
    have e := toNat_shl23 n hn
    rw [BitVec.slt, BitVec.toInt_eq_toNat_of_lt (by omega), BitVec.toInt_eq_toNat_of_lt (by decide), e]
    simp only [BitVec.toNat_ofNat, decide_eq_false_iff_not]; omega
  rw [hc, if_neg Bool.false_ne_true]
  refine (ofBits_f32 _ (n - 8) 0 ?_ (by norm_num) (by omega) (by omega)).trans ?_
  · rw [BitVec.toNat_sub, toNat_shl23 n hn]; simp only [BitVec.toNat_ofNat]; omega
  · rw [EReal.coe_eq_coe_iff]
    have : (n : ℤ) - 135 = 23 + (((n - 8 : ℕ) : ℤ) - 150) := by push_cast [show 8 ≤ n by omega]; ring
    rw [this, zpow_add₀ (by norm_num)]; norm_num

/-- The inverse scale is the opposite power of two. -/
theorem inv_of_expo (a : EReal) (n : ℕ) (h : expo a = n) (h10 : 10 ≤ n) (hn : n < 256) :
    invK a = (((2 : ℝ) ^ (135 - (n : ℤ)) : ℝ) : EReal) := by
  unfold invK; rw [h]
  have e : (((BitVec.ofNat 32 n) <<< 7).setWidth 16).toNat = n * 2 ^ 7 := by
    rw [BitVec.toNat_setWidth, BitVec.toNat_shiftLeft, BitVec.toNat_ofNat, Nat.shiftLeft_eq]; omega
  have hc : (((BitVec.ofNat 32 n) <<< 7).setWidth 16).slt 1280#16 = false := by
    rw [BitVec.slt, BitVec.toInt_eq_toNat_of_lt (by omega), BitVec.toInt_eq_toNat_of_lt (by decide), e]
    simp only [BitVec.toNat_ofNat, decide_eq_false_iff_not]; omega
  have hb : (33536#16 - ((BitVec.ofNat 32 n) <<< 7).setWidth 16).toNat = (262 - n) * 2 ^ 7 := by
    rw [BitVec.toNat_sub, e]; simp only [BitVec.toNat_ofNat]; omega
  rw [hc, if_neg Bool.false_ne_true]
  refine (ofBits_bf16 _ (262 - n) hb (by omega) (by omega)).trans ?_
  have : ((262 - n : ℕ) : ℤ) - 127 = 135 - (n : ℤ) := by push_cast [show n ≤ 262 by omega]; ring
  rw [this]

/-- A magnitude the quantiser's two spellings agree on: zero, or from `lo` up to the largest `bf16`. -/
def Tame (lo : ℝ) (a : EReal) : Prop :=
  a = 0 ∨ ∃ r : ℝ, a = (r : EReal) ∧ lo ≤ r ∧ r < 7 / 4 * (2 : ℝ) ^ (128 : ℤ)

/-- For a tame nonzero magnitude: the count, and the reference's exponent, at once. -/
theorem tame_count (r : ℝ) (m : ℕ) (h10 : 10 ≤ m) (lo : 7 / 4 * (2 : ℝ) ^ ((m : ℤ) - 128) ≤ r)
    (hi : r < 7 / 4 * (2 : ℝ) ^ (128 : ℤ)) :
    ∃ n : ℕ, m ≤ n ∧ n < 256 ∧ expo (r : EReal) = n ∧ lg (r : EReal) = ((((n : ℤ) - 135 : ℤ) : ℝ) : EReal) := by
  have hr : 0 < r := lt_of_lt_of_le (by positivity) lo
  obtain ⟨z, hz1, hz2⟩ := exists_mem_Ico_zpow (x := r * (1 / 448)) (y := (2 : ℝ)) (by positivity) (by norm_num)
  have e448 : ∀ w : ℤ, (448 : ℝ) * 2 ^ w = 7 / 4 * 2 ^ (w + 8) := by
    intro w; rw [zpow_add₀ (by norm_num)]; norm_num; ring
  have h1 : 7 / 4 * (2 : ℝ) ^ (z + 8) ≤ r := by rw [← e448]; linarith
  have h2 : r < 7 / 4 * (2 : ℝ) ^ (z + 9) := by
    have := e448 (z + 1); rw [show z + 1 + 8 = z + 9 by ring] at this; rw [← this]; linarith
  have hz : (m : ℤ) - 128 < z + 9 := by
    have : (2 : ℝ) ^ ((m : ℤ) - 128) < 2 ^ (z + 9) := by linarith
    exact (zpow_lt_zpow_iff_right₀ (by norm_num)).1 this
  have hz' : z + 8 < 128 := by
    have : (2 : ℝ) ^ (z + 8) < 2 ^ (128 : ℤ) := by linarith
    exact (zpow_lt_zpow_iff_right₀ (by norm_num)).1 this
  obtain ⟨n, hn⟩ : ∃ n : ℕ, (n : ℤ) = z + 136 := ⟨(z + 136).toNat, by omega⟩
  refine ⟨n, by omega, by omega, expo_eq r n (by omega) (by omega) ?_ ?_, ?_⟩
  · rw [hn, show z + 136 - 128 = z + 8 by ring]; exact h1
  · rw [hn, show z + 136 - 127 = z + 9 by ring]; exact h2
  · unfold lg
    rw [if_neg (by exact_mod_cast hr.ne'), ← EReal.coe_mul, Ideal.log_coe, if_neg (by push Not; positivity), ← EReal.coe_mul]
    have hf : ⌊Real.log (r * (1 / 448)) * (Real.log 2)⁻¹⌋ = z := by
      have hl : 0 < Real.log 2 := Real.log_pos (by norm_num)
      rw [Int.floor_eq_iff, ← div_eq_mul_inv, le_div_iff₀ hl, div_lt_iff₀ hl]
      have hx : 0 < r * (1 / 448) := by positivity
      constructor
      · rw [← Real.log_zpow]; exact Real.log_le_log (by positivity) hz1
      · have : ((z : ℝ) + 1) * Real.log 2 = Real.log ((2 : ℝ) ^ (z + 1)) := by rw [Real.log_zpow]; push_cast; ring
        rw [this]; exact Real.log_lt_log hx hz2
    show ((⌊Real.log (r * (1 / 448)) * (Real.log 2)⁻¹⌋ : ℤ) : ℝ) + (1 : EReal) = _
    rw [hf, hn]
    rw [← EReal.coe_one, ← EReal.coe_add]
    congr 1; push_cast; ring

/-- Two to an integer, as the extended reals take it. -/
theorem exp2_int (z : ℤ) : Ideal.exp2 (((z : ℤ) : ℝ) : EReal) = (((2 : ℝ) ^ z : ℝ) : EReal) := by
  rw [Ideal.exp2_coe]; congr 1; exact Real.rpow_intCast 2 z

/-- The scale of a tame magnitude is a positive power of two, the same by both spellings, and the inverse scale its inverse. -/
theorem tame_scale (a : EReal) (m : ℕ) (h10 : 10 ≤ m) (hm : m ≤ 135) (h : Tame (7 / 4 * (2 : ℝ) ^ ((m : ℤ) - 128)) a) :
    ∃ s : ℝ, (2 : ℝ) ^ ((m : ℤ) - 135) ≤ s ∧ scaleK a = (s : EReal) ∧ invK a = ((s⁻¹ : ℝ) : EReal) ∧
      Ideal.exp2 (lg a) = (s : EReal) ∧ Ideal.exp2 (0 - lg a) = ((s⁻¹ : ℝ) : EReal) := by
  rcases h with rfl | ⟨r, rfl, lo, hi⟩
  · refine ⟨1, ?_, by rw [scale_zero]; rfl, by rw [inv_zero]; simp, ?_, ?_⟩
    · calc (2 : ℝ) ^ ((m : ℤ) - 135) ≤ 2 ^ (0 : ℤ) := zpow_le_zpow_right₀ (by norm_num) (by omega)
        _ = 1 := by simp
    · have := exp2_int 0
      simp only [lg, if_pos]; simpa using this
    · have := exp2_int 0
      simp only [lg, if_pos]; simpa using this
  · obtain ⟨n, h1, h2, h3, h4⟩ := tame_count r m h10 lo hi
    refine ⟨(2 : ℝ) ^ ((n : ℤ) - 135), zpow_le_zpow_right₀ (by norm_num) (by omega),
      scale_of_expo _ n h3 (by omega) h2, ?_, ?_, ?_⟩
    · rw [inv_of_expo _ n h3 (by omega) h2, ← zpow_neg]; congr 2; ring
    · rw [h4, exp2_int]
    · rw [h4, zero_sub, ← EReal.coe_neg, ← Int.cast_neg, exp2_int, zpow_neg]

end Cert.Fp8
-- ==== Proof.Tile.lean ====
module

public import Idealize.ShloMosaic.Lib.Pipeline.ValueKit
public import Idealize.ShloMosaic.Lib.MatmulPlain
public import Idealize.ShloMosaic.Lib.Affine
public import Idealize.ShloMosaic.Lib.ValueLayout
public import proofs.«01_k».proof.Proof.Quant

@[expose] public section

set_option maxRecDepth 16384

noncomputable section

namespace Cert.Fp8

open Idealize.ShloMosaic Idealize.ShloMosaic.TcCoe

/-- The constant with these bits, as a number. -/
theorem ofBits_bot : Ideal.ofBits .f32 4286578688#32 = (⊥ : EReal) := by simp [Ideal.ofBits, Ideal.ieee]

/-- The constant with these bits, as a number. -/
theorem ofBits_eight : Ideal.ofBits .f32 1090519040#32 = (8 : EReal) := by
  rw [ofBits_f32 _ 130 0 (by decide) (by norm_num) (by norm_num) (by norm_num)]
  have : ((8 : ℝ) : EReal) = 8 := rfl
  rw [← this, EReal.coe_eq_coe_iff]; norm_num

/-- The words that say which keys a query row sees, for `n` keys against two times 64 query rows side by side. -/
def visible (n : ℕ) (q0 : BitVec 32) (sg : IVec ⟨2, ![n, 128]⟩ 32) (sq : IVec ⟨3, ![1, 1, 64]⟩ 32)
    (h1 : (⟨3, ![1, 1, 64]⟩ : Shape).ShapeCasts ⟨2, ![1, 64]⟩)
    (h2 : Shape.Concatenates [(⟨2, ![1, 64]⟩ : Shape), ⟨2, ![1, 64]⟩] ⟨2, ![1, 128]⟩ 1)
    (h3 : (⟨2, ![1, 128]⟩ : Shape).Broadcasts ⟨2, ![n, 128]⟩)
    (h4 : (⟨2, ![n, 128]⟩ : Shape).Iotas .tc 32 [0]) (h5 : (⟨2, ![n, 128]⟩ : Shape).Iotas .tc 32 [1])
    (h6 : (⟨2, ![n, 128]⟩ : Shape).Broadcasts ⟨2, ![n, 128]⟩) : IVec ⟨2, ![n, 128]⟩ 1 :=
  let a : IVec ⟨2, ![1, 64]⟩ 32 := shapeCast ⟨2, ![1, 64]⟩ sq h1
  let b : IVec ⟨2, ![1, 128]⟩ 32 := concatenate ⟨2, ![1, 128]⟩ 1 [⟨⟨2, ![1, 64]⟩, a⟩, ⟨⟨2, ![1, 64]⟩, a⟩] h2
  let s : BitVec 32 := Scalar.select (Scalar.cmpi .eq 64#32 0#32) 1#32 64#32
  let r : IVec ⟨2, ![n, 128]⟩ 32 := remsi (iota .tc ⟨2, ![n, 128]⟩ 32 [1] h5) (broadcast ⟨2, ![n, 128]⟩ s)
  let z : IVec ⟨2, ![n, 128]⟩ 32 := broadcast ⟨2, ![n, 128]⟩ 0#32
  let w : IVec ⟨2, ![n, 128]⟩ 1 := broadcastTo ⟨2, ![n, 128]⟩ (broadcast ⟨2, ![n, 128]⟩ (Scalar.cmpi .slt s 0#32)) h6
  let l : IVec ⟨2, ![n, 128]⟩ 32 :=
    select (andi (xori (cmpi .slt r z) w) (cmpi .ne r z)) (addi r (broadcast ⟨2, ![n, 128]⟩ s)) r
  andi (cmpi .eq sg (broadcastTo ⟨2, ![n, 128]⟩ b h3))
    (cmpi .sle (iota .tc ⟨2, ![n, 128]⟩ 32 [0] h4) (addi (broadcast ⟨2, ![n, 128]⟩ q0) l))

/-- The word of a lane's row within its half of 64 lanes. -/
theorem lane_row : ∀ l : Fin 128,
    Scalar.select
      (IntOp.andi
        (IntOp.xori
          (IntOp.cmpi CmpIPredicate.slt
            (IntOp.remsi ArithUnit.vector (BitVec.ofNat 32 ↑l)
              (Scalar.select (Scalar.cmpi CmpIPredicate.eq 64#32 0#32) 1#32 64#32))
            0#32)
          (Scalar.cmpi CmpIPredicate.slt (Scalar.select (Scalar.cmpi CmpIPredicate.eq 64#32 0#32) 1#32 64#32)
            0#32))
        (IntOp.cmpi CmpIPredicate.ne
          (IntOp.remsi ArithUnit.vector (BitVec.ofNat 32 ↑l)
            (Scalar.select (Scalar.cmpi CmpIPredicate.eq 64#32 0#32) 1#32 64#32))
          0#32))
      (IntOp.addi
        (IntOp.remsi ArithUnit.vector (BitVec.ofNat 32 ↑l)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 ↑l)
        (Scalar.select (Scalar.cmpi CmpIPredicate.eq 64#32 0#32) 1#32 64#32))
      = BitVec.ofNat 32 (l.val % 64) := by
  decide +kernel

/-- The mask of a tile: same segment and not later. -/
theorem visible_apply (n : ℕ) (i : ℕ) (hi : n ≤ 640) (hq : i ≤ 640) (sg : IVec ⟨2, ![n, 128]⟩ 32) (sq : IVec ⟨3, ![1, 1, 64]⟩ 32)
    (h1 h2 h3 h4 h5 h6) (k : Fin n) (l : Fin 128) :
    visible n (BitVec.ofNat 32 i) sg sq h1 h2 h3 h4 h5 h6 (ix2 k l) = 1#1 ↔
      sg (ix2 k l) = sq (ix3 0 0 ⟨l.val % 64, Nat.mod_lt _ (by decide)⟩) ∧ k.val ≤ i + l.val % 64 := by
  have e : (if h : l.val < 64 then sq (ix3 0 0 ⟨l.val, h⟩) else sq (ix3 0 0 ⟨l.val - 64, by omega⟩))
      = sq (ix3 0 0 ⟨l.val % 64, Nat.mod_lt _ (by decide)⟩) := by
    split
    · congr 2; apply Fin.ext; simp only []; omega
    · congr 2; apply Fin.ext; simp only []; omega
  pointwise [visible]
  rw [lane_row, e]
  have hk : k.val < 640 := lt_of_lt_of_le k.isLt hi
  have hl : l.val % 64 < 64 := Nat.mod_lt _ (by decide)
  rw [Idealize.ShloMosaic.IntOp.andi_eq_one, Idealize.ShloMosaic.IntOp.cmpi_sle, Idealize.ShloMosaic.IntOp.cmpi_eq]
  have e1 : (BitVec.ofNat 32 k.val).toInt = k.val := by
    rw [BitVec.toInt_eq_toNat_of_lt (by rw [BitVec.toNat_ofNat]; omega), BitVec.toNat_ofNat]; omega
  have e2 : (IntOp.addi (BitVec.ofNat 32 i) (BitVec.ofNat 32 (l.val % 64))).toInt = ((i + l.val % 64 : ℕ) : ℤ) := by
    have : IntOp.addi (BitVec.ofNat 32 i) (BitVec.ofNat 32 (l.val % 64)) = BitVec.ofNat 32 (i + l.val % 64) := by
      simp [IntOp.addi, BitVec.ofNat_add]
    rw [this, BitVec.toInt_eq_toNat_of_lt (by rw [BitVec.toNat_ofNat]; omega), BitVec.toNat_ofNat]; omega
  rw [e1, e2]
  exact and_congr Iff.rfl Int.ofNat_le

/-- One slab of 128 query columns: the products scaled by the keys' scales, keys out of sight at minus infinity. -/
def slabT (n : ℕ) (off : Fin 2 → ℕ) (vis : IVec ⟨2, ![n, 128]⟩ 1) (raw : FVec Ideal ⟨2, ![n, 384]⟩ .f32) (kcol : FVec Ideal ⟨3, ![1, n, 128]⟩ .f32)
    (h1 : (⟨3, ![1, n, 128]⟩ : Shape).ShapeCasts ⟨2, ![n, 128]⟩)
    (h2 : (⟨2, ![n, 384]⟩ : Shape).Slices off ⟨2, ![n, 128]⟩) : FVec Ideal ⟨2, ![n, 128]⟩ .f32 :=
  addf (mulf (extractStridedSlice ⟨2, ![n, 128]⟩ off raw h2) (shapeCast ⟨2, ![n, 128]⟩ kcol h1))
    (select vis (broadcast ⟨2, ![n, 128]⟩ (Scalar.ofBits (F := Ideal) .f32 0x00000000#32)) (broadcast ⟨2, ![n, 128]⟩ (Scalar.ofBits (F := Ideal) .f32 0xFF800000#32)))

/-- The slab's weights, 256 at the largest. -/
def slabP (n : ℕ) (t : FVec Ideal ⟨2, ![n, 128]⟩ .f32) (c : FVec Ideal ⟨3, ![1, 1, 128]⟩ .f32)
    (h1 : (⟨3, ![1, 1, 128]⟩ : Shape).ShapeCasts ⟨2, ![1, 128]⟩)
    (h2 : (⟨2, ![n, 128]⟩ : Shape).Reduces [0] ⟨1, ![128]⟩)
    (h3 : (⟨1, ![128]⟩ : Shape).ShapeCasts ⟨2, ![1, 128]⟩)
    (h4 : (⟨2, ![1, 128]⟩ : Shape).Broadcasts ⟨2, ![n, 128]⟩) : FVec Ideal ⟨2, ![n, 128]⟩ .f32 :=
  let cc : FVec Ideal ⟨2, ![1, 128]⟩ .f32 := shapeCast ⟨2, ![1, 128]⟩ c h1
  let mm : FVec Ideal ⟨2, ![1, 128]⟩ .f32 := shapeCast ⟨2, ![1, 128]⟩ (multiReduction .maximumf [0] ⟨1, ![128]⟩ t 0xFF800000#32 h2 (.inl rfl) rfl) h3
  exp2 (subf (mulf t (broadcastTo ⟨2, ![n, 128]⟩ cc h4))
    (broadcastTo ⟨2, ![n, 128]⟩ (subf (mulf mm cc) (broadcast ⟨2, ![1, 128]⟩ (Scalar.ofBits (F := Ideal) .f32 0x41000000#32))) h4))

/-- One over the weights' sum. -/
def slabR (n : ℕ) (p : FVec Ideal ⟨2, ![n, 128]⟩ .f32)
    (h2 : (⟨2, ![n, 128]⟩ : Shape).Reduces [0] ⟨1, ![128]⟩)
    (h3 : (⟨1, ![128]⟩ : Shape).ShapeCasts ⟨2, ![1, 128]⟩) : FVec Ideal ⟨2, ![1, 128]⟩ .f32 :=
  divf (broadcast ⟨2, ![1, 128]⟩ (Scalar.ofBits (F := Ideal) .f32 0x3F800000#32))
    (shapeCast ⟨2, ![1, 128]⟩ (multiReduction .add [0] ⟨1, ![128]⟩ p 0x00000000#32 h2 (.inl rfl) rfl) h3)

/-- The weights as eight-bit codes. -/
def slabC (n : ℕ) (p : FVec Ideal ⟨2, ![n, 128]⟩ .f32) : FVec Ideal ⟨2, ![n, 128]⟩ .fp8e4m3 :=
  truncf .fp8e4m3 (minimumf (broadcast ⟨2, ![n, 128]⟩ (Scalar.ofBits (F := Ideal) .f32 0x43E00000#32))
    (maximumf (broadcast ⟨2, ![n, 128]⟩ (Scalar.ofBits (F := Ideal) .f32 0xC3E00000#32)) p)) (by decide)

/-- The products of the keys' codes with six heads' codes of 64 query rows. -/
def tileRaw (n : ℕ) (q : FVec Ideal ⟨4, ![1, 6, 64, 256]⟩ .fp8e4m3) (k : FVec Ideal ⟨4, ![1, 1, n, 256]⟩ .fp8e4m3)
    (h1 : (⟨4, ![1, 6, 64, 256]⟩ : Shape).ShapeCasts ⟨3, ![6, 64, 256]⟩)
    (h2 : (⟨3, ![6, 64, 256]⟩ : Shape).ShapeCasts ⟨2, ![384, 256]⟩)
    (h3 : (⟨4, ![1, 1, n, 256]⟩ : Shape).ShapeCasts ⟨2, ![n, 256]⟩) : FVec Ideal ⟨2, ![n, 384]⟩ .f32 :=
  matmul (DotDims.transposedRhs n 256 384) none (shapeCast ⟨2, ![n, 256]⟩ k h3 : FVec Ideal ⟨2, ![n, 256]⟩ .fp8e4m3)
    (shapeCast ⟨2, ![384, 256]⟩ (shapeCast ⟨3, ![6, 64, 256]⟩ q h1 : FVec Ideal ⟨3, ![6, 64, 256]⟩ .fp8e4m3) h2 : FVec Ideal ⟨2, ![384, 256]⟩ .fp8e4m3) (constant ⟨2, ![n, 384]⟩ .f32 0x00000000#32)

/-- A tile of the output, rows by six heads of 64 query rows. -/
def tileOut (n : ℕ) (v : FVec Ideal ⟨3, ![1, 256, n]⟩ .bf16) (p0 p1 p2 : FVec Ideal ⟨2, ![n, 128]⟩ .fp8e4m3) (r0 r1 r2 : FVec Ideal ⟨2, ![1, 128]⟩ .f32)
    (h1 : (⟨3, ![1, 256, n]⟩ : Shape).ShapeCasts ⟨2, ![256, n]⟩)
    (h2 : Shape.Concatenates [(⟨2, ![n, 128]⟩ : Shape), ⟨2, ![n, 128]⟩, ⟨2, ![n, 128]⟩] ⟨2, ![n, 384]⟩ 1)
    (h3 : Shape.Concatenates [(⟨2, ![1, 128]⟩ : Shape), ⟨2, ![1, 128]⟩, ⟨2, ![1, 128]⟩] ⟨2, ![1, 384]⟩ 1)
    (h4 : (⟨2, ![1, 384]⟩ : Shape).Broadcasts ⟨2, ![256, 384]⟩)
    (h5 : (⟨2, ![256, 384]⟩ : Shape).Transposes [1, 0] ⟨2, ![384, 256]⟩) : FVec Ideal ⟨2, ![384, 256]⟩ .bf16 :=
  transpose ⟨2, ![384, 256]⟩ [1, 0]
    (truncf .bf16 (mulf
      (matmul (DotDims.plain 256 n 384) none (shapeCast ⟨2, ![256, n]⟩ v h1 : FVec Ideal ⟨2, ![256, n]⟩ .bf16)
        (extf .bf16 (concatenate ⟨2, ![n, 384]⟩ 1 [⟨⟨2, ![n, 128]⟩, p0⟩, ⟨⟨2, ![n, 128]⟩, p1⟩, ⟨⟨2, ![n, 128]⟩, p2⟩] h2 : FVec Ideal ⟨2, ![n, 384]⟩ .fp8e4m3) (by decide) : FVec Ideal ⟨2, ![n, 384]⟩ .bf16)
        (constant ⟨2, ![256, 384]⟩ .f32 0x00000000#32))
      (broadcastTo ⟨2, ![256, 384]⟩ (concatenate ⟨2, ![1, 384]⟩ 1 [⟨⟨2, ![1, 128]⟩, r0⟩, ⟨⟨2, ![1, 128]⟩, r1⟩, ⟨⟨2, ![1, 128]⟩, r2⟩] h3 : FVec Ideal ⟨2, ![1, 384]⟩ .f32) h4)) (by decide) : FVec Ideal ⟨2, ![256, 384]⟩ .bf16) h5

/-- A slice of 128 lanes, at an index. -/
theorem slice_apply {α : Type} (n o : ℕ) (x : (⟨2, ![n, 384]⟩ : Shape).Idx → α) (h : (⟨2, ![n, 384]⟩ : Shape).Slices ![0, o] ⟨2, ![n, 128]⟩)
    (ho : o + 128 ≤ 384) (k : Fin n) (l : Fin 128) :
    extractStridedSlice ⟨2, ![n, 128]⟩ ![0, o] x h (ix2 k l) = x (ix2 k ⟨o + l.val, by omega⟩) := by
  refine congrArg x (funext fun a => Fin.ext ?_)
  match a with
  | ⟨0, _⟩ => exact Nat.zero_add _
  | ⟨1, _⟩ => rfl

/-- The scores of a slab, at an index. -/
theorem slabT_apply (n o : ℕ) (vis raw kcol) (h1 h2) (ho : o + 128 ≤ 384) (k : Fin n) (l : Fin 128) :
    slabT n ![0, o] vis raw kcol h1 h2 (ix2 k l) = raw (ix2 k ⟨o + l.val, by omega⟩) * kcol (ix3 0 k l)
      + if vis (ix2 k l) = 1#1 then 0 else ⊥ := by
  have e := slice_apply n o raw h2 ho k l
  have e' : shapeCast ⟨2, ![n, 128]⟩ kcol h1 (ix2 k l) = kcol (ix3 0 k l) := congrArg kcol (ValueIdx.reshapeEquiv_ix2_1ab h1 k l)
  have z := ofBits_bot
  have z0 : Ideal.ofBits .f32 0#32 = (0 : EReal) := Ideal.ofBits_zero_f32
  show extractStridedSlice ⟨2, ![n, 128]⟩ ![0, o] raw h2 (ix2 k l) * shapeCast ⟨2, ![n, 128]⟩ kcol h1 (ix2 k l)
    + (if vis (ix2 k l) = 1#1 then Ideal.ofBits .f32 0#32 else Ideal.ofBits .f32 4286578688#32) = _
  rw [e, e', z, z0]

/-- The weights of a slab, at an index. -/
theorem slabP_apply (n : ℕ) (t c) (h1 h2 h3 h4) (k : Fin n) (l : Fin 128) :
    slabP n t c h1 h2 h3 h4 (ix2 k l) = Ideal.exp2 (t (ix2 k l) * c (ix3 0 0 l)
      - ((Finset.univ.fold max ⊥ fun x : Fin n => t (ix2 x l)) * c (ix3 0 0 l) - 8)) := by
  have z := ofBits_bot
  have z8 := ofBits_eight
  pointwise [slabP]
  rw [z, z8]
  rfl

/-- One over the sum of the weights, at a lane. -/
theorem slabR_apply (n : ℕ) (p) (h2 h3) (l : Fin 128) :
    slabR n p h2 h3 (ix2 0 l) = Ideal.div 1 (∑ x : Fin n, p (ix2 x l)) := by
  pointwise [slabR]

/-- The clip to the eight-bit range. -/
def clip (x : EReal) : EReal := min (Ideal.ofBits .f32 1138753536#32) (max (Ideal.ofBits .f32 3286237184#32) x)

/-- The clipped weights, at an index. -/
theorem slabC_apply (n : ℕ) (p) (k) (l : Fin 128) :
    slabC n p (ix2 k l) = clip (p (ix2 k l)) := by
  pointwise [slabC]
  rfl

/-- The raw scores of a tile, at an index. -/
theorem tileRaw_apply (n : ℕ) (q k) (h1 h2 h3) (r : Fin n) (l : Fin 384) :
    tileRaw n q k h1 h2 h3 (ix2 r l) = ∑ x : Fin 256, k (ix4 0 0 r x) * q (ix4 0 ⟨l.val / 64, by omega⟩ ⟨l.val % 64, by omega⟩ x) := by
  have e1 : ∀ x, shapeCast ⟨2, ![n, 256]⟩ k h3 (ix2 r x) = k (ix4 0 0 r x) := fun x => congrArg k (ValueIdx.reshapeEquiv_ix2_11ab h3 r x)
  have e2 : ∀ x : Fin 256, shapeCast ⟨2, ![384, 256]⟩ (shapeCast ⟨3, ![6, 64, 256]⟩ q h1) h2 (ix2 l x)
      = q (ix4 0 ⟨l.val / 64, by omega⟩ ⟨l.val % 64, by omega⟩ x) := by
    intro x; pointwise
  rw [tileRaw]
  refine (Ideal.matmul_transposedRhs_apply none _ _ _ r l).trans ?_
  have z0 : Ideal.ofBits .f32 0#32 = (0 : EReal) := Ideal.ofBits_zero_f32
  refine (congrArg (· + _) z0).trans ?_
  rw [zero_add]
  exact Finset.sum_congr rfl fun x _ => congrArg₂ (· * ·) (e1 x) (e2 x)

/-- Three slabs side by side, at an index. -/
theorem cat3_apply {α : Type} (n : ℕ) (p0 p1 p2 : (⟨2, ![n, 128]⟩ : Shape).Idx → α)
    (h2 : Shape.Concatenates [(⟨2, ![n, 128]⟩ : Shape), ⟨2, ![n, 128]⟩, ⟨2, ![n, 128]⟩] ⟨2, ![n, 384]⟩ 1) (P : Fin n → ℕ → α)
    (e0 : ∀ k l, p0 (ix2 k l) = P k (0 + l.val)) (e1 : ∀ k l, p1 (ix2 k l) = P k (128 + l.val)) (e2 : ∀ k l, p2 (ix2 k l) = P k (256 + l.val))
    (k : Fin n) (l : Fin 384) :
    concatenate ⟨2, ![n, 384]⟩ 1 [⟨⟨2, ![n, 128]⟩, p0⟩, ⟨⟨2, ![n, 128]⟩, p1⟩, ⟨⟨2, ![n, 128]⟩, p2⟩] h2 (ix2 k l) = P k l.val := by
  pointwise
  split
  · refine Eq.trans (congrArg p0 (funext fun a => Fin.ext ?_)) ((e0 k ⟨l.val, by assumption⟩).trans (congrArg (P k) (Nat.zero_add _)))
    match a with
    | ⟨0, _⟩ => rfl
    | ⟨1, _⟩ => rfl
  · split
    · refine Eq.trans (congrArg p1 (funext fun a => Fin.ext ?_)) ((e1 k ⟨l.val - 128, by assumption⟩).trans (congrArg (P k) (by simp only []; omega)))
      match a with
      | ⟨0, _⟩ => rfl
      | ⟨1, _⟩ => rfl
    · refine Eq.trans (congrArg p2 (funext fun a => Fin.ext ?_)) ((e2 k ⟨l.val - 128 - 128, by omega⟩).trans (congrArg (P k) (by simp only []; omega)))
      match a with
      | ⟨0, _⟩ => rfl
      | ⟨1, _⟩ => rfl

/-- The output of a tile, at an index. -/
theorem tileOut_apply (n : ℕ) (v p0 p1 p2 r0 r1 r2) (h1 h2 h3 h4 h5) (P : Fin n → ℕ → EReal) (R : ℕ → EReal)
    (e0 : ∀ k l, p0 (ix2 k l) = P k (0 + l.val)) (e1 : ∀ k l, p1 (ix2 k l) = P k (128 + l.val)) (e2 : ∀ k l, p2 (ix2 k l) = P k (256 + l.val))
    (f0 : ∀ l, r0 (ix2 0 l) = R (0 + l.val)) (f1 : ∀ l, r1 (ix2 0 l) = R (128 + l.val)) (f2 : ∀ l, r2 (ix2 0 l) = R (256 + l.val))
    (l : Fin 384) (d : Fin 256) :
    tileOut n v p0 p1 p2 r0 r1 r2 h1 h2 h3 h4 h5 (ix2 l d) = (∑ k : Fin n, v (ix3 0 d k) * P k l.val) * R l.val := by
  have ev : ∀ x, shapeCast ⟨2, ![256, n]⟩ v h1 (ix2 d x) = v (ix3 0 d x) := fun x => congrArg v (ValueIdx.reshapeEquiv_ix2_1ab h1 d x)
  have er := cat3_apply 1 r0 r1 r2 h3 (fun _ => R) (fun k l => by rw [Fin.fin_one_eq_zero k]; exact f0 l)
    (fun k l => by rw [Fin.fin_one_eq_zero k]; exact f1 l) (fun k l => by rw [Fin.fin_one_eq_zero k]; exact f2 l) 0 l
  have z0 : Ideal.ofBits .f32 0#32 = (0 : EReal) := Ideal.ofBits_zero_f32
  have em := (Ideal.matmul_plain_apply none (shapeCast ⟨2, ![256, n]⟩ v h1 : FVec Ideal ⟨2, ![256, n]⟩ .bf16)
        (extf .bf16 (concatenate ⟨2, ![n, 384]⟩ 1 [⟨⟨2, ![n, 128]⟩, p0⟩, ⟨⟨2, ![n, 128]⟩, p1⟩, ⟨⟨2, ![n, 128]⟩, p2⟩] h2 : FVec Ideal ⟨2, ![n, 384]⟩ .fp8e4m3) (by decide) : FVec Ideal ⟨2, ![n, 384]⟩ .bf16)
        (constant ⟨2, ![256, 384]⟩ .f32 0x00000000#32) d l)
  have em' := em.trans ((congrArg (· + _) z0).trans ((zero_add _).trans (Finset.sum_congr rfl fun x _ =>
    congrArg₂ (· * ·) (ev x) (cat3_apply n p0 p1 p2 h2 P e0 e1 e2 x l))))
  refine (?_ : _ = _ * _).trans (congrArg₂ (· * ·) em' er)
  rw [tileOut]
  pointwise
  rfl

end Cert.Fp8
-- ==== Proof.Codes.lean ====
module

public import proofs.«01_k».proof.Proof.Tile
public import Idealize.ShloMosaic.Lib.Pipeline.ReadBack

@[expose] public section

set_option maxRecDepth 16384

noncomputable section

namespace Cert.Fp8

open Idealize.ShloMosaic Idealize.ShloMosaic.TcCoe

/-- How many thresholds each magnitude has reached. -/
def count (R L : ℕ) (b : FVec Ideal ⟨2, ![R, L]⟩ .f32)
    (h1 : (⟨3, ![R, 256, L]⟩ : Shape).Iotas .tc 32 [1]) (h2 : (⟨2, ![R, L]⟩ : Shape).ShapeCasts ⟨3, ![R, 1, L]⟩)
    (h3 : (⟨3, ![R, 1, L]⟩ : Shape).Broadcasts ⟨3, ![R, 256, L]⟩) (h4 : 1 < 32) (h5 : (⟨3, ![R, 256, L]⟩ : Shape).Reduces [1] ⟨2, ![R, L]⟩) :
    IVec ⟨2, ![R, L]⟩ 32 :=
  multiReductionI .add [1] ⟨2, ![R, L]⟩ (extui 32 (andi (cmpi .sgt (iota .tc ⟨3, ![R, 256, L]⟩ 32 [1] h1) (broadcast ⟨3, ![R, 256, L]⟩ 0#32))
    (cmpf .oge (broadcastTo ⟨3, ![R, 256, L]⟩ (shapeCast ⟨3, ![R, 1, L]⟩ b h2) h3)
      (bitcastToFloat .f32 (subi (shli (iota .tc ⟨3, ![R, 256, L]⟩ 32 [1] h1) (broadcast ⟨3, ![R, 256, L]⟩ 23#32)) (broadcast ⟨3, ![R, 256, L]⟩ 2097152#32))))) h4) 0#32 h5 rfl

/-- Adding up 32-bit words is adding up their numbers. -/
theorem fold_addi {n : ℕ} (f : Fin n → ℕ) (s : Finset (Fin n)) :
    s.fold IntOp.addi (0#32) (fun x => BitVec.ofNat 32 (f x)) = BitVec.ofNat 32 (∑ x ∈ s, f x) := by
  classical
  induction s using Finset.induction_on with
  | empty => rfl
  | insert a s ha ih =>
    rw [Finset.fold_insert ha, ih, Finset.sum_insert ha]
    simp [IntOp.addi, BitVec.ofNat_add]

/-- The conjunction of two test bits, widened to a word, is one or zero. -/
theorem bit_word (p q : Prop) [Decidable p] [Decidable q] :
    BitVec.setWidth 32 (IntOp.andi (BitVec.ofBool (decide p)) (BitVec.ofBool (decide q))) = BitVec.ofNat 32 (if p ∧ q then 1 else 0) := by
  by_cases h1 : p <;> by_cases h2 : q <;> simp only [h1, h2] <;> decide

/-- The number of thresholds reached, added up as words, is the exponent count. -/
theorem fold_count (a : EReal) :
    Finset.fold IntOp.addi (0#32)
      (fun x : Fin 256 =>
        BitVec.setWidth 32
          (IntOp.andi (IntOp.cmpi CmpIPredicate.sgt (BitVec.ofNat 32 ↑x) 0#32)
            (BitVec.ofBool
              (decide
                (Ideal.ofBits FTy.f32 (IntOp.subi (IntOp.shli ArithUnit.vector (BitVec.ofNat 32 ↑x) 23#32) 2097152#32) ≤ a)))))
      Finset.univ = BitVec.ofNat 32 (expo a) := by
  have hs : ∀ x : Fin 256, IntOp.subi (IntOp.shli ArithUnit.vector (BitVec.ofNat 32 x.val) 23#32) 2097152#32
      = (BitVec.ofNat 32 x.val) <<< 23 - 2097152#32 := by decide +kernel
  have hp : ∀ x : Fin 256, IntOp.cmpi CmpIPredicate.sgt (BitVec.ofNat 32 x.val) 0#32 = BitVec.ofBool (decide (0 < x.val)) := by
    decide +kernel
  have e : ∀ x : Fin 256, BitVec.setWidth 32
          (IntOp.andi (IntOp.cmpi CmpIPredicate.sgt (BitVec.ofNat 32 ↑x) 0#32)
            (BitVec.ofBool
              (decide
                (Ideal.ofBits FTy.f32 (IntOp.subi (IntOp.shli ArithUnit.vector (BitVec.ofNat 32 ↑x) 23#32) 2097152#32) ≤ a))))
      = BitVec.ofNat 32 (if 0 < x.val ∧ thr x.val ≤ a then 1 else 0) := by
    intro x
    rw [hs, hp]
    exact bit_word _ _
  rw [show (fun x : Fin 256 => BitVec.setWidth 32
          (IntOp.andi (IntOp.cmpi CmpIPredicate.sgt (BitVec.ofNat 32 ↑x) 0#32)
            (BitVec.ofBool
              (decide
                (Ideal.ofBits FTy.f32 (IntOp.subi (IntOp.shli ArithUnit.vector (BitVec.ofNat 32 ↑x) 23#32) 2097152#32) ≤ a)))))
      = fun x => BitVec.ofNat 32 (if 0 < x.val ∧ thr x.val ≤ a then 1 else 0) from funext e]
  rw [fold_addi]
  refine congrArg (BitVec.ofNat 32) ?_
  rw [expo, Finset.card_filter, ← Fin.sum_univ_eq_sum_range (fun k => if 0 < k ∧ thr k ≤ a then 1 else 0) 256]

/-- The count of a column of magnitudes, at an index. -/
theorem count_apply1 (b) (h1 h2 h3 h4 h5) (r : Fin 128) (l : Fin 1) :
    count 128 1 b h1 h2 h3 h4 h5 (ix2 r l) = BitVec.ofNat 32 (expo (b (ix2 r 0))) := by
  pointwise [count]
  exact fold_count _

/-- The count of an eight-row block of magnitudes, at an index. -/
theorem count_apply8 (b) (h1 h2 h3 h4 h5) (r : Fin 8) (l : Fin 128) :
    count 8 128 b h1 h2 h3 h4 h5 (ix2 r l) = BitVec.ofNat 32 (expo (b (ix2 r l))) := by
  pointwise [count]
  exact fold_count _

/-- A magnitude. -/
def mag (x : EReal) : EReal := max x (-x)

/-- The constant with these bits, as a number. -/
theorem ofBits_hi16 : Ideal.ofBits .bf16 17376#16 = ((448 : ℝ) : EReal) := by
  simp [Ideal.ofBits, Ideal.ieee]; rw [← EReal.coe_mul, EReal.coe_eq_coe_iff]; norm_num

/-- The constant with these bits, as a number. -/
theorem ofBits_lo16 : Ideal.ofBits .bf16 50144#16 = ((-448 : ℝ) : EReal) := by
  simp [Ideal.ofBits, Ideal.ieee]; rw [← EReal.coe_mul, EReal.coe_eq_coe_iff]; norm_num

/-- The constant with these bits, as a number. -/
theorem ofBits_hi32 : Ideal.ofBits .f32 1138753536#32 = ((448 : ℝ) : EReal) := by
  simp [Ideal.ofBits, Ideal.ieee]; rw [← EReal.coe_mul, EReal.coe_eq_coe_iff]; norm_num

/-- The constant with these bits, as a number. -/
theorem ofBits_lo32 : Ideal.ofBits .f32 3286237184#32 = ((-448 : ℝ) : EReal) := by
  simp [Ideal.ofBits, Ideal.ieee]; rw [← EReal.coe_mul, EReal.coe_eq_coe_iff]; norm_num

/-- The constant with these bits, as a number. -/
theorem ofBits_bot16 : Ideal.ofBits .bf16 65408#16 = ⊥ := by
  simp [Ideal.ofBits, Ideal.ieee]

/-- The largest magnitude of each row. -/
def rowMax (X : FVec Ideal ⟨2, ![128, 256]⟩ .bf16) (h1 : (⟨2, ![128, 256]⟩ : Shape).Reduces [1] ⟨1, ![128]⟩)
    (h2 : (⟨1, ![128]⟩ : Shape).ShapeCasts ⟨2, ![128, 1]⟩) (h3 : FKind.Formats .bf16) : FVec Ideal ⟨2, ![128, 1]⟩ .bf16 :=
  shapeCast ⟨2, ![128, 1]⟩ (multiReduction .maximumf [1] ⟨1, ![128]⟩ (absf X) 65408#16 h1 h3 rfl) h2

/-- The scales of 128 rows from their counts. -/
def scaleCol (s : Shape) (n : IVec s 32) : FVec Ideal s .f32 :=
  bitcastToFloat .f32 (select (cmpi .slt (shli n (broadcast s 23#32)) (broadcast s 83886080#32)) (broadcast s 1065353216#32)
    (subi (shli n (broadcast s 23#32)) (broadcast s 67108864#32)))

/-- The scale built from the count of a magnitude is its scale. -/
theorem scaleCol_apply (s : Shape) (n) (x : s.Idx) (a : EReal) (h : n x = BitVec.ofNat 32 (expo a)) : scaleCol s n x = scaleK a := by
  pointwise [scaleCol]
  rw [h]
  unfold scaleK
  refine congrArg (Ideal.ofBits .f32) ?_
  show (if IntOp.cmpi CmpIPredicate.slt (BitVec.ofNat 32 (expo a) <<< 23) 83886080#32 = 1#1 then _ else _) = _
  simp only [Idealize.ShloMosaic.IntOp.cmpi_slt, BitVec.slt_iff_toInt_lt]
  rfl

/-- The codes of 128 rows from their counts. -/
def codes (X : FVec Ideal ⟨2, ![128, 256]⟩ .bf16) (n : IVec ⟨2, ![128, 1]⟩ 32)
    (h1 : 16 < 32) (h2 : (⟨2, ![128, 1]⟩ : Shape).Broadcasts ⟨2, ![128, 256]⟩) : FVec Ideal ⟨2, ![128, 256]⟩ .fp8e4m3 :=
  let e : IVec ⟨2, ![128, 1]⟩ 16 := trunci 16 (shli n (broadcast ⟨2, ![128, 1]⟩ 7#32)) h1
  let i : FVec Ideal ⟨2, ![128, 1]⟩ .bf16 := bitcastToFloat .bf16 (select (cmpi .slt e (broadcast ⟨2, ![128, 1]⟩ 1280#16))
    (broadcast ⟨2, ![128, 1]⟩ 16256#16) (subi (broadcast ⟨2, ![128, 1]⟩ 33536#16) e))
  truncf .fp8e4m3 (minimumf (broadcast ⟨2, ![128, 256]⟩ (Scalar.ofBits (F := Ideal) .bf16 0x43E0#16))
    (maximumf (broadcast ⟨2, ![128, 256]⟩ (Scalar.ofBits (F := Ideal) .bf16 0xC3E0#16)) (mulf X (broadcastTo ⟨2, ![128, 256]⟩ i h2)))) (by decide)

/-- The codes of a block of rows: each entry times the inverse scale, clipped. -/
theorem codes_apply (X n h1 h2) (r : Fin 128) (d : Fin 256) (a : EReal) (h : n (ix2 r 0) = BitVec.ofNat 32 (expo a)) :
    codes X n h1 h2 (ix2 r d) = clip (X (ix2 r d) * invK a) := by
  pointwise [codes]
  rw [h, ofBits_hi16, ofBits_lo16, clip, ofBits_hi32, ofBits_lo32]
  unfold invK
  refine congrArg (fun z => min ((448 : ℝ) : EReal) (max ((-448 : ℝ) : EReal) (X (ix2 r d) * Ideal.ofBits .bf16 z))) ?_
  show (if IntOp.cmpi CmpIPredicate.slt (BitVec.setWidth 16 (BitVec.ofNat 32 (expo a) <<< 7)) 1280#16 = 1#1 then _ else _) = _
  simp only [Idealize.ShloMosaic.IntOp.cmpi_slt, BitVec.slt_iff_toInt_lt]
  rfl

/-- The largest magnitude of a row of a block. -/
theorem rowMax_apply (X h1 h2 h3) (r : Fin 128) (l : Fin 1) :
    rowMax X h1 h2 h3 (ix2 r l) = Finset.univ.fold max ⊥ fun d : Fin 256 => mag (X (ix2 r d)) := by
  pointwise [rowMax]
  rw [ofBits_bot16]
  rfl

end Cert.Fp8
-- ==== Proof.Pieces.lean ====
module

public import proofs.«01_k».proof.Proof.Codes

@[expose] public section

set_option maxRecDepth 16384

noncomputable section

namespace Cert.Fp8

open Idealize.ShloMosaic Idealize.ShloMosaic.TcCoe

/-- The largest magnitude of the 256 entries of a row from a column on. -/
def amx (T : ℕ → ℕ → EReal) (r c : ℕ) : EReal := Finset.univ.fold max ⊥ fun d : Fin 256 => mag (T r (c + d.val))

/-- The code of an entry: the entry over its row's scale, clipped. -/
def cod (T : ℕ → ℕ → EReal) (h r d : ℕ) : EReal := clip (T r (256 * h + d) * invK (amx T r (256 * h)))

/-- The scale of a head's row. -/
def scl (T : ℕ → ℕ → EReal) (h r : ℕ) : EReal := scaleK (amx T r (256 * h))

/-- A loaded block of 128 rows as a matrix. -/
def blk (X : FVec Ideal ⟨3, ![1, 128, 256]⟩ .bf16) (h : (⟨3, ![1, 128, 256]⟩ : Shape).ShapeCasts ⟨2, ![128, 256]⟩) :
    FVec Ideal ⟨2, ![128, 256]⟩ .bf16 := shapeCast ⟨2, ![128, 256]⟩ X h

/-- The largest magnitudes of a loaded block's rows, widened. -/
def amF (X : FVec Ideal ⟨3, ![1, 128, 256]⟩ .bf16) (h : (⟨3, ![1, 128, 256]⟩ : Shape).ShapeCasts ⟨2, ![128, 256]⟩)
    (h1 : (⟨2, ![128, 256]⟩ : Shape).Reduces [1] ⟨1, ![128]⟩) (h2 : (⟨1, ![128]⟩ : Shape).ShapeCasts ⟨2, ![128, 1]⟩) (h3 : FKind.Formats .bf16)
    (h4 : FTy.bf16.bits < FTy.f32.bits) : FVec Ideal ⟨2, ![128, 1]⟩ .f32 := extf .f32 (rowMax (blk X h) h1 h2 h3) h4

/-- A block without its unit axis, at an index. -/
theorem blk_apply (X h) (r : Fin 128) (d : Fin 256) : blk X h (ix2 r d) = X (ix3 0 r d) := by
  pointwise [blk]

/-- A block's row maxima are the table's largest magnitudes. -/
theorem amF_apply (X h h1 h2 h3 h4) (T : ℕ → ℕ → EReal) (r0 c0 : ℕ) (hX : ∀ y, X y = T (r0 + (y 1).val) (c0 + (y 2).val))
    (r : Fin 128) (l : Fin 1) : amF X h h1 h2 h3 h4 (ix2 r l) = amx T (r0 + r.val) c0 := by
  have e : amF X h h1 h2 h3 h4 (ix2 r l) = rowMax (blk X h) h1 h2 h3 (ix2 r l) := by pointwise [amF]
  rw [e, rowMax_apply]
  simp only [blk_apply, hX]
  rfl

/-- The stored codes of a block of rows. -/
theorem codes_piece {h r0 c0 : ℕ} {H : ℕ} {X : FVec Ideal ⟨3, ![1, 128, 256]⟩ .bf16} {a1 a2 a3 a4 a5 b1 b2 b3 b4 b5 c1 c2 c3}
    {inb : ∀ a, (![0, h, r0, 0] : Fin 4 → ℕ) a + (⟨4, ![1, 1, 128, 256]⟩ : Shape).size a ≤ (⟨4, ![1, H, 640, 256]⟩ : Shape).size a}
    {T : ℕ → ℕ → EReal} (hX : ∀ y, X y = T (r0 + (y 1).val) (c0 + (y 2).val)) (hc : c0 = 256 * h)
    (x : (Rect.unit (s := ⟨4, ![1, H, 640, 256]⟩) ![0, h, r0, 0] (⟨4, ![1, 1, 128, 256]⟩ : Shape).size inb).shape.Idx) :
    (shapeCast ⟨4, ![1, 1, 128, 256]⟩ (codes (blk X a1) (count 128 1 (amF X a1 a2 a3 a4 a5) b1 b2 b3 b4 b5) c1 c2) c3
        : (⟨4, ![1, 1, 128, 256]⟩ : Shape).Idx → EReal) x
      = (fun y : (⟨4, ![1, H, 640, 256]⟩ : Shape).Idx => cod T (y 1).val (y 2).val (y 3).val)
          ((Rect.unit (s := ⟨4, ![1, H, 640, 256]⟩) ![0, h, r0, 0] (⟨4, ![1, 1, 128, 256]⟩ : Shape).size inb).emb x) := by
  subst hc
  have e : ∀ Y : FVec Ideal ⟨2, ![128, 256]⟩ .fp8e4m3, shapeCast ⟨4, ![1, 1, 128, 256]⟩ Y c3 x = Y (ix2 ⟨(x 2).val, (x 2).isLt⟩ ⟨(x 3).val, (x 3).isLt⟩) := by
    intro Y; pointwise
  have f := fun a => ValueKit.rect_emb_unit_val (s := ⟨4, ![1, H, 640, 256]⟩) ![0, h, r0, 0] (⟨4, ![1, 1, 128, 256]⟩ : Shape).size inb x a
  have x1 : (x 1).val < 1 := (x 1).isLt
  refine (e _).trans ?_
  rw [codes_apply _ _ _ _ _ _ (amx T (r0 + (x 2).val) (256 * h)) (by rw [count_apply1, amF_apply _ _ _ _ _ _ _ _ _ hX])]
  show _ = cod T _ _ _
  rw [f 1, f 2, f 3, blk_apply, hX]
  have g1 : (![0, h, r0, 0] : Fin 4 → ℕ) 1 + (x 1).val = h := by show h + _ = h; omega
  have g3 : (![0, h, r0, 0] : Fin 4 → ℕ) 3 + (x 3).val = (x 3).val := Nat.zero_add _
  rw [g1, g3]
  rfl

/-- The key scales stored across the lanes. -/
theorem kcol_piece {h r0 c0 : ℕ} {X : FVec Ideal ⟨3, ![1, 128, 256]⟩ .bf16} {a1 a2 a3 a4 a5 b1 b2 b3 b4 b5 c1 c2 c3}
    {inb : ∀ a, (![h, r0, 0] : Fin 3 → ℕ) a + (⟨3, ![1, 128, 128]⟩ : Shape).size a ≤ (⟨3, ![2, 640, 128]⟩ : Shape).size a}
    {T : ℕ → ℕ → EReal} (hX : ∀ y, X y = T (r0 + (y 1).val) (c0 + (y 2).val)) (hc : c0 = 256 * h)
    (x : (Rect.unit (s := ⟨3, ![2, 640, 128]⟩) ![h, r0, 0] (⟨3, ![1, 128, 128]⟩ : Shape).size inb).shape.Idx) :
    (shapeCast ⟨3, ![1, 128, 128]⟩ (broadcastTo ⟨2, ![128, 128]⟩ (shapeCast ⟨2, ![128, 1]⟩ (scaleCol ⟨2, ![128, 1]⟩
        (count 128 1 (amF X a1 a2 a3 a4 a5) b1 b2 b3 b4 b5)) c1) c2) c3 : (⟨3, ![1, 128, 128]⟩ : Shape).Idx → EReal) x
      = (fun y : (⟨3, ![2, 640, 128]⟩ : Shape).Idx => scl T (y 0).val (y 1).val)
          ((Rect.unit (s := ⟨3, ![2, 640, 128]⟩) ![h, r0, 0] (⟨3, ![1, 128, 128]⟩ : Shape).size inb).emb x) := by
  subst hc
  have e : ∀ Y : FVec Ideal ⟨2, ![128, 1]⟩ .f32, (shapeCast ⟨3, ![1, 128, 128]⟩ (broadcastTo ⟨2, ![128, 128]⟩ (shapeCast ⟨2, ![128, 1]⟩ Y c1) c2) c3) x
      = Y (ix2 ⟨(x 1).val, (x 1).isLt⟩ 0) := by
    intro Y; pointwise
  have f := fun a => ValueKit.rect_emb_unit_val (s := ⟨3, ![2, 640, 128]⟩) ![h, r0, 0] (⟨3, ![1, 128, 128]⟩ : Shape).size inb x a
  have x1 : (x 0).val < 1 := (x 0).isLt
  refine (e _).trans ?_
  rw [scaleCol_apply _ _ _ (amx T (r0 + (x 1).val) (256 * h)) (by rw [count_apply1, amF_apply _ _ _ _ _ _ _ _ _ hX])]
  show _ = scl T _ _
  rw [f 0, f 1]
  have g1 : (![h, r0, 0] : Fin 3 → ℕ) 0 + (x 0).val = h := by show h + _ = h; omega
  rw [g1]
  rfl

/-- The dequantised values, transposed. -/
theorem vt_piece {h r0 c0 : ℕ} {X : FVec Ideal ⟨3, ![1, 128, 256]⟩ .bf16} {a1 a2 a3 a4 a5 b1 b2 b3 b4 b5 c1 c2 d1 d2 d3 d4 d5}
    {inb : ∀ a, (![h, 0, r0] : Fin 3 → ℕ) a + (⟨3, ![1, 256, 128]⟩ : Shape).size a ≤ (⟨3, ![2, 256, 640]⟩ : Shape).size a}
    {T : ℕ → ℕ → EReal} (hX : ∀ y, X y = T (r0 + (y 1).val) (c0 + (y 2).val)) (hc : c0 = 256 * h)
    (x : (Rect.unit (s := ⟨3, ![2, 256, 640]⟩) ![h, 0, r0] (⟨3, ![1, 256, 128]⟩ : Shape).size inb).shape.Idx) :
    (shapeCast ⟨3, ![1, 256, 128]⟩ (transpose ⟨2, ![256, 128]⟩ [1, 0] (truncf .bf16 (mulf (extf .f32
        (codes (blk X a1) (count 128 1 (amF X a1 a2 a3 a4 a5) b1 b2 b3 b4 b5) c1 c2) d1)
        (broadcastTo ⟨2, ![128, 256]⟩ (scaleCol ⟨2, ![128, 1]⟩ (count 128 1 (amF X a1 a2 a3 a4 a5) b1 b2 b3 b4 b5)) d2)) d3) d4) d5
        : (⟨3, ![1, 256, 128]⟩ : Shape).Idx → EReal) x
      = (fun y : (⟨3, ![2, 256, 640]⟩ : Shape).Idx => cod T (y 0).val (y 2).val (y 1).val * scl T (y 0).val (y 2).val)
          ((Rect.unit (s := ⟨3, ![2, 256, 640]⟩) ![h, 0, r0] (⟨3, ![1, 256, 128]⟩ : Shape).size inb).emb x) := by
  subst hc
  have e : ∀ (Y : FVec Ideal ⟨2, ![128, 256]⟩ .fp8e4m3) (Z : FVec Ideal ⟨2, ![128, 1]⟩ .f32),
      (shapeCast ⟨3, ![1, 256, 128]⟩ (transpose ⟨2, ![256, 128]⟩ [1, 0] (truncf .bf16 (mulf (extf .f32 Y d1)
        (broadcastTo ⟨2, ![128, 256]⟩ Z d2)) d3) d4) d5) x
      = Y (ix2 ⟨(x 2).val, (x 2).isLt⟩ ⟨(x 1).val, (x 1).isLt⟩) * Z (ix2 ⟨(x 2).val, (x 2).isLt⟩ 0) := by
    intro Y Z; pointwise
  have f := fun a => ValueKit.rect_emb_unit_val (s := ⟨3, ![2, 256, 640]⟩) ![h, 0, r0] (⟨3, ![1, 256, 128]⟩ : Shape).size inb x a
  have x1 : (x 0).val < 1 := (x 0).isLt
  refine (e _ _).trans ?_
  rw [codes_apply _ _ _ _ _ _ (amx T (r0 + (x 2).val) (256 * h)) (by rw [count_apply1, amF_apply _ _ _ _ _ _ _ _ _ hX]),
    scaleCol_apply _ _ _ (amx T (r0 + (x 2).val) (256 * h)) (by rw [count_apply1, amF_apply _ _ _ _ _ _ _ _ _ hX])]
  show _ = cod T _ _ _ * scl T _ _
  rw [f 0, f 1, f 2, blk_apply, hX]
  have g1 : (![h, 0, r0] : Fin 3 → ℕ) 0 + (x 0).val = h := by show h + _ = h; omega
  have g2 : (![h, 0, r0] : Fin 3 → ℕ) 1 + (x 1).val = (x 1).val := Nat.zero_add _
  rw [g1, g2]
  rfl

/-- A word made real and back is itself. -/
theorem fptosi_sitofp (z : BitVec 32) : Ideal.fptosi 32 (((z.toInt : ℝ) : EReal)) = z := by
  have h1 : -(2 ^ 31 : ℤ) ≤ z.toInt := BitVec.le_toInt z
  have h2 : z.toInt < 2 ^ 31 := BitVec.toInt_lt
  have e : ((-(2 ^ (32 - 1) : ℕ) : ℤ)) = -2147483648 := by norm_num
  have e' : (((2 ^ (32 - 1) : ℕ) : ℤ) - 1) = 2147483647 := by norm_num
  show BitVec.ofInt 32 (max (-((2 ^ (32 - 1) : ℕ) : ℤ)) (min (((2 ^ (32 - 1) : ℕ) : ℤ) - 1) (if (0 : ℝ) ≤ (z.toInt : ℝ) then ⌊(z.toInt : ℝ)⌋ else ⌈(z.toInt : ℝ)⌉))) = z
  rw [Int.floor_intCast, Int.ceil_intCast, ite_self, e', e, min_eq_right (by omega), max_eq_right (by omega), BitVec.ofInt_toInt]

/-- The segments of 128 keys, down the rows of a square. -/
theorem segcol_piece {r0 : ℕ} {X : IVec ⟨3, ![1, 1, 128]⟩ 32} {a1 a2 a3 a4 a5}
    {inb : ∀ a, (![r0, 0] : Fin 2 → ℕ) a + (⟨2, ![128, 128]⟩ : Shape).size a ≤ (⟨2, ![640, 128]⟩ : Shape).size a}
    {SG : ℕ → BitVec 32} (hX : ∀ y, X y = SG (r0 + (y 2).val))
    (x : (Rect.unit (s := ⟨2, ![640, 128]⟩) ![r0, 0] (⟨2, ![128, 128]⟩ : Shape).size inb).shape.Idx) :
    (shapeCast ⟨2, ![128, 128]⟩ (fptosi 32 (transpose ⟨2, ![128, 128]⟩ [1, 0] (sitofp (F := Ideal) .f32 (broadcastTo ⟨2, ![128, 128]⟩
        (shapeCast ⟨2, ![1, 128]⟩ (shapeCast ⟨2, ![1, 128]⟩ X a1) a2) a3)) a4)) a5 : (⟨2, ![128, 128]⟩ : Shape).Idx → BitVec 32) x
      = (fun y : (⟨2, ![640, 128]⟩ : Shape).Idx => SG (y 0).val)
          ((Rect.unit (s := ⟨2, ![640, 128]⟩) ![r0, 0] (⟨2, ![128, 128]⟩ : Shape).size inb).emb x) := by
  have f := fun a => ValueKit.rect_emb_unit_val (s := ⟨2, ![640, 128]⟩) ![r0, 0] (⟨2, ![128, 128]⟩ : Shape).size inb x a
  have e : (shapeCast ⟨2, ![128, 128]⟩ (fptosi 32 (transpose ⟨2, ![128, 128]⟩ [1, 0] (sitofp (F := Ideal) .f32 (broadcastTo ⟨2, ![128, 128]⟩
        (shapeCast ⟨2, ![1, 128]⟩ (shapeCast ⟨2, ![1, 128]⟩ X a1) a2) a3)) a4)) a5) x = X (ix3 0 0 ⟨(x 0).val, (x 0).isLt⟩) := by
    pointwise
    exact fptosi_sitofp _
  rw [e, hX]
  show _ = SG _
  rw [f 0]
  rfl

/-- A column put at one lane of a square. -/
def put (p : BitVec 32) (hi : (⟨2, ![128, 128]⟩ : Shape).Iotas .tc 32 [1]) (Y : FVec Ideal ⟨2, ![128, 1]⟩ .f32)
    (h1 : (⟨2, ![128, 1]⟩ : Shape).ShapeCasts ⟨2, ![128, 1]⟩) (h2 : (⟨2, ![128, 1]⟩ : Shape).Broadcasts ⟨2, ![128, 128]⟩)
    (Z : FVec Ideal ⟨2, ![128, 128]⟩ .f32) : FVec Ideal ⟨2, ![128, 128]⟩ .f32 :=
  select (cmpi .eq (iota .tc ⟨2, ![128, 128]⟩ 32 [1] hi) (broadcast ⟨2, ![128, 128]⟩ p)) (broadcastTo ⟨2, ![128, 128]⟩ (shapeCast ⟨2, ![128, 1]⟩ Y h1) h2) Z

/-- Putting a column into one lane of a matrix, at an index. -/
theorem put_apply (p : ℕ) (hp : p < 128) (hi Y h1 h2 Z) (r j : Fin 128) :
    put (BitVec.ofNat 32 p) hi Y h1 h2 Z (ix2 r j) = if j.val = p then Y (ix2 r 0) else Z (ix2 r j) := by
  have e : (IntOp.cmpi .eq (BitVec.ofNat 32 j.val) (BitVec.ofNat 32 p) = 1#1) ↔ j.val = p := by
    rw [Idealize.ShloMosaic.IntOp.cmpi_eq]
    constructor
    · intro h
      have := congrArg BitVec.toNat h
      simp only [BitVec.toNat_ofNat] at this
      have := j.isLt
      omega
    · intro h; rw [h]
  pointwise [put]
  exact if_congr e rfl rfl

/-- The first eight lanes of a square, as rows. -/
def eight (M : FVec Ideal ⟨2, ![128, 128]⟩ .f32) (h1 : (⟨2, ![128, 128]⟩ : Shape).Transposes [1, 0] ⟨2, ![128, 128]⟩)
    (h2 : (⟨2, ![128, 128]⟩ : Shape).Slices ![0, 0] ⟨2, ![8, 128]⟩) : FVec Ideal ⟨2, ![8, 128]⟩ .f32 :=
  extractStridedSlice ⟨2, ![8, 128]⟩ ![0, 0] (transpose ⟨2, ![128, 128]⟩ [1, 0] M h1) h2

/-- The first eight rows of the transpose, at an index. -/
theorem eight_apply (M h1 h2) (p : Fin 8) (l : Fin 128) : eight M h1 h2 (ix2 p l) = M (ix2 l ⟨p.val, by omega⟩) := by
  pointwise [eight]

/-- The scales of eight lanes of magnitudes. -/
def scale8 (M : FVec Ideal ⟨2, ![128, 128]⟩ .f32) (h1 : (⟨2, ![128, 128]⟩ : Shape).Transposes [1, 0] ⟨2, ![128, 128]⟩)
    (h2 : (⟨2, ![128, 128]⟩ : Shape).Slices ![0, 0] ⟨2, ![8, 128]⟩) (b1 : (⟨3, ![8, 256, 128]⟩ : Shape).Iotas .tc 32 [1])
    (b2 : (⟨2, ![8, 128]⟩ : Shape).ShapeCasts ⟨3, ![8, 1, 128]⟩) (b3 : (⟨3, ![8, 1, 128]⟩ : Shape).Broadcasts ⟨3, ![8, 256, 128]⟩) (b4 : 1 < 32)
    (b5 : (⟨3, ![8, 256, 128]⟩ : Shape).Reduces [1] ⟨2, ![8, 128]⟩) : FVec Ideal ⟨2, ![8, 128]⟩ .f32 :=
  scaleCol ⟨2, ![8, 128]⟩ (count 8 128 (eight M h1 h2) b1 b2 b3 b4 b5)

/-- The scales of those eight rows, at an index. -/
theorem scale8_apply (M h1 h2 b1 b2 b3 b4 b5) (p : Fin 8) (l : Fin 128) :
    scale8 M h1 h2 b1 b2 b3 b4 b5 (ix2 p l) = scaleK (M (ix2 l ⟨p.val, by omega⟩)) := by
  rw [scale8, scaleCol_apply _ _ _ _ (count_apply8 _ _ _ _ _ _ p l), eight_apply]

/-- The key scales and the value scales, two rows of each. -/
theorem two_piece {r0 o c0 c1 c2 c3 : ℕ} {L0 L1 L2 L3 : FVec Ideal ⟨3, ![1, 128, 256]⟩ .bf16} {Z : FVec Ideal ⟨2, ![128, 128]⟩ .f32}
    {a1 a2 a3 a4 a5 hi p1 p2 h1 h2 b1 b2 b3 b4 b5 g1 g2}
    {inb : ∀ a, (![0, 0, r0] : Fin 3 → ℕ) a + (⟨3, ![1, 2, 128]⟩ : Shape).size a ≤ (⟨3, ![1, 2, 640]⟩ : Shape).size a}
    {K V : ℕ → ℕ → EReal} (hL0 : ∀ y, L0 y = K (r0 + (y 1).val) (c0 + (y 2).val)) (hL1 : ∀ y, L1 y = K (r0 + (y 1).val) (c1 + (y 2).val))
    (hL2 : ∀ y, L2 y = V (r0 + (y 1).val) (c2 + (y 2).val)) (hL3 : ∀ y, L3 y = V (r0 + (y 1).val) (c3 + (y 2).val))
    (hc : c0 = 0 ∧ c1 = 256 ∧ c2 = 0 ∧ c3 = 256) {T : ℕ → ℕ → EReal} (hT : o = 0 ∧ T = K ∨ o = 2 ∧ T = V)
    (x : (Rect.unit (s := ⟨3, ![1, 2, 640]⟩) ![0, 0, r0] (⟨3, ![1, 2, 128]⟩ : Shape).size inb).shape.Idx) :
    (shapeCast ⟨3, ![1, 2, 128]⟩ (extractStridedSlice ⟨2, ![2, 128]⟩ ![o, 0] (scale8
        (put 3#32 hi (amF L3 a1 a2 a3 a4 a5) p1 p2 (put 1#32 hi (amF L1 a1 a2 a3 a4 a5) p1 p2 (put 2#32 hi (amF L2 a1 a2 a3 a4 a5) p1 p2
          (put 0#32 hi (amF L0 a1 a2 a3 a4 a5) p1 p2 Z)))) h1 h2 b1 b2 b3 b4 b5) g1) g2 : (⟨3, ![1, 2, 128]⟩ : Shape).Idx → EReal) x
      = (fun y : (⟨3, ![1, 2, 640]⟩ : Shape).Idx => scl T (y 1).val (y 2).val)
          ((Rect.unit (s := ⟨3, ![1, 2, 640]⟩) ![0, 0, r0] (⟨3, ![1, 2, 128]⟩ : Shape).size inb).emb x) := by
  obtain ⟨rfl, rfl, rfl, rfl⟩ := hc
  have f := fun a => ValueKit.rect_emb_unit_val (s := ⟨3, ![1, 2, 640]⟩) ![0, 0, r0] (⟨3, ![1, 2, 128]⟩ : Shape).size inb x a
  have x1 : (x 1).val < 2 := (x 1).isLt
  have e : ∀ Y : FVec Ideal ⟨2, ![8, 128]⟩ .f32, ∀ ho : o + (x 1).val < 8, shapeCast ⟨3, ![1, 2, 128]⟩ (extractStridedSlice ⟨2, ![2, 128]⟩ ![o, 0] Y g1) g2 x
      = Y (ix2 ⟨o + (x 1).val, ho⟩ ⟨(x 2).val, (x 2).isLt⟩) := by
    intro Y ho
    have e0 : ∀ Y : FVec Ideal ⟨2, ![2, 128]⟩ .f32, shapeCast ⟨3, ![1, 2, 128]⟩ Y g2 x = Y (ix2 ⟨(x 1).val, (x 1).isLt⟩ ⟨(x 2).val, (x 2).isLt⟩) := by
      intro Y; pointwise
    rw [e0]
    refine congrArg Y (funext fun a => Fin.ext ?_)
    match a with
    | ⟨0, _⟩ => rfl
    | ⟨1, _⟩ => exact Nat.zero_add _
  refine (e _ (by omega)).trans ?_
  rw [scale8_apply]
  show _ = scl T _ _
  rw [f 1, f 2, put_apply 3 (by decide), put_apply 1 (by decide), put_apply 2 (by decide), put_apply 0 (by decide)]
  have q : (![0, 0, r0] : Fin 3 → ℕ) 1 + (x 1).val = (x 1).val := Nat.zero_add _
  rw [q, amF_apply _ _ _ _ _ _ _ _ _ hL0, amF_apply _ _ _ _ _ _ _ _ _ hL1, amF_apply _ _ _ _ _ _ _ _ _ hL2, amF_apply _ _ _ _ _ _ _ _ _ hL3]
  have q2 : (x 1).val = 0 ∨ (x 1).val = 1 := by omega
  rcases hT with ⟨rfl, rfl⟩ | ⟨rfl, rfl⟩ <;> rcases q2 with q2 | q2 <;> simp only [q2] <;> rfl

/-- Half of two heads' magnitudes, one under the other. -/
def col (o : ℕ) (A B : FVec Ideal ⟨2, ![128, 1]⟩ .f32) (h1 : (⟨2, ![128, 1]⟩ : Shape).Slices ![o, 0] ⟨2, ![64, 1]⟩)
    (h2 : Shape.Concatenates [(⟨2, ![64, 1]⟩ : Shape), ⟨2, ![64, 1]⟩] ⟨2, ![128, 1]⟩ 0) : FVec Ideal ⟨2, ![128, 1]⟩ .f32 :=
  concatenate ⟨2, ![128, 1]⟩ 0 [⟨⟨2, ![64, 1]⟩, extractStridedSlice ⟨2, ![64, 1]⟩ ![o, 0] A h1⟩, ⟨⟨2, ![64, 1]⟩, extractStridedSlice ⟨2, ![64, 1]⟩ ![o, 0] B h1⟩] h2

/-- Two half columns stacked, at an index. -/
theorem col_apply (o : ℕ) (A B h1 h2) (F : ℕ → ℕ → EReal) (hA : ∀ r : Fin 128, A (ix2 r 0) = F 0 r.val) (hB : ∀ r : Fin 128, B (ix2 r 0) = F 1 r.val)
    (l : Fin 128) (z : Fin 1) : col o A B h1 h2 (ix2 l z) = F (l.val / 64) (o + l.val % 64) := by
  have hz : z = 0 := by omega
  subst hz
  have ho : o + 64 ≤ 128 := h1.2 0
  have es : ∀ (X : FVec Ideal ⟨2, ![128, 1]⟩ .f32) (k : Fin 64), extractStridedSlice ⟨2, ![64, 1]⟩ ![o, 0] X h1 (ix2 k 0) = X (ix2 ⟨o + k.val, by omega⟩ 0) := by
    intro X k
    refine congrArg X (funext fun a => Fin.ext ?_)
    match a with
    | ⟨0, _⟩ => rfl
    | ⟨1, _⟩ => rfl
  have ec : ∀ X Y : FVec Ideal ⟨2, ![64, 1]⟩ .f32, concatenate ⟨2, ![128, 1]⟩ 0 [⟨⟨2, ![64, 1]⟩, X⟩, ⟨⟨2, ![64, 1]⟩, Y⟩] h2 (ix2 l 0)
      = if h : l.val < 64 then X (ix2 ⟨l.val, h⟩ 0) else Y (ix2 ⟨l.val - 64, by omega⟩ 0) := by
    intro X Y; pointwise
  rw [col, ec]
  split
  · rw [es, hA, Nat.div_eq_of_lt ‹_›, Nat.mod_eq_of_lt ‹_›]
  · rw [es, hB]
    have : l.val / 64 = 1 := by omega
    have : l.val % 64 = l.val - 64 := by omega
    simp only [*]

/-- The twelve heads' magnitudes of half a block: two heads to a lane. -/
def mat (o : ℕ) (hi : (⟨2, ![128, 128]⟩ : Shape).Iotas .tc 32 [1])
    (h1 : (⟨2, ![128, 1]⟩ : Shape).Slices ![o, 0] ⟨2, ![64, 1]⟩)
    (h2 : Shape.Concatenates [(⟨2, ![64, 1]⟩ : Shape), ⟨2, ![64, 1]⟩] ⟨2, ![128, 1]⟩ 0)
    (p1 : (⟨2, ![128, 1]⟩ : Shape).ShapeCasts ⟨2, ![128, 1]⟩) (p2 : (⟨2, ![128, 1]⟩ : Shape).Broadcasts ⟨2, ![128, 128]⟩)
    (A0 A1 A2 A3 A4 A5 A6 A7 A8 A9 A10 A11 : FVec Ideal ⟨2, ![128, 1]⟩ .f32) (Z : FVec Ideal ⟨2, ![128, 128]⟩ .f32) : FVec Ideal ⟨2, ![128, 128]⟩ .f32 :=
  put 5#32 hi (col o A10 A11 h1 h2) p1 p2 (put 4#32 hi (col o A8 A9 h1 h2) p1 p2 (put 3#32 hi (col o A6 A7 h1 h2) p1 p2 (put 2#32 hi (col o A4 A5 h1 h2) p1 p2 (put 1#32 hi (col o A2 A3 h1 h2) p1 p2 (put 0#32 hi (col o A0 A1 h1 h2) p1 p2 Z)))))

/-- The scale at a lane of a row of eight: head `2 p + l / 64`, row `r + l % 64`; past the twelve heads, that of zero. -/
def lane (T : ℕ → ℕ → EReal) (r p l : ℕ) : EReal := scaleK (if p < 6 then amx T (r + l % 64) (256 * (2 * p + l / 64)) else 0)

/-- The matrix of six stacked columns, at an index. -/
theorem mat_apply (o hi h1 h2 p1 p2) (A0 A1 A2 A3 A4 A5 A6 A7 A8 A9 A10 A11 Z) (F : ℕ → ℕ → EReal)
    (hA0 : ∀ r : Fin 128, A0 (ix2 r 0) = F 0 r.val) (hA1 : ∀ r : Fin 128, A1 (ix2 r 0) = F 1 r.val) (hA2 : ∀ r : Fin 128, A2 (ix2 r 0) = F 2 r.val) (hA3 : ∀ r : Fin 128, A3 (ix2 r 0) = F 3 r.val) (hA4 : ∀ r : Fin 128, A4 (ix2 r 0) = F 4 r.val) (hA5 : ∀ r : Fin 128, A5 (ix2 r 0) = F 5 r.val) (hA6 : ∀ r : Fin 128, A6 (ix2 r 0) = F 6 r.val) (hA7 : ∀ r : Fin 128, A7 (ix2 r 0) = F 7 r.val) (hA8 : ∀ r : Fin 128, A8 (ix2 r 0) = F 8 r.val) (hA9 : ∀ r : Fin 128, A9 (ix2 r 0) = F 9 r.val) (hA10 : ∀ r : Fin 128, A10 (ix2 r 0) = F 10 r.val) (hA11 : ∀ r : Fin 128, A11 (ix2 r 0) = F 11 r.val)
    (l p : Fin 128) : mat o hi h1 h2 p1 p2 A0 A1 A2 A3 A4 A5 A6 A7 A8 A9 A10 A11 Z (ix2 l p)
      = if p.val < 6 then F (2 * p.val + l.val / 64) (o + l.val % 64) else Z (ix2 l p) := by
  rw [mat, put_apply 5 (by decide), put_apply 4 (by decide), put_apply 3 (by decide), put_apply 2 (by decide), put_apply 1 (by decide), put_apply 0 (by decide),
    col_apply o A0 A1 h1 h2 (fun a => F (2 * 0 + a)) hA0 hA1, col_apply o A2 A3 h1 h2 (fun a => F (2 * 1 + a)) hA2 hA3, col_apply o A4 A5 h1 h2 (fun a => F (2 * 2 + a)) hA4 hA5, col_apply o A6 A7 h1 h2 (fun a => F (2 * 3 + a)) hA6 hA7, col_apply o A8 A9 h1 h2 (fun a => F (2 * 4 + a)) hA8 hA9, col_apply o A10 A11 h1 h2 (fun a => F (2 * 5 + a)) hA10 hA11]
  split_ifs <;> first | rfl | omega | simp only [*]

/-- The scales of half a block's rows, two heads to a row of lanes. -/
theorem lanes {o r0 R : ℕ} {X0 X1 X2 X3 X4 X5 X6 X7 X8 X9 X10 X11 : FVec Ideal ⟨3, ![1, 128, 256]⟩ .bf16} {Z : FVec Ideal ⟨2, ![128, 128]⟩ .f32}
    {a1 a2 a3 a4 a5 hi h1 h2 p1 p2 t1 t2 b1 b2 b3 b4 b5} {T : ℕ → ℕ → EReal}
    (hX0 : ∀ y, X0 y = T (r0 + (y 1).val) (0 + (y 2).val)) (hX1 : ∀ y, X1 y = T (r0 + (y 1).val) (256 + (y 2).val)) (hX2 : ∀ y, X2 y = T (r0 + (y 1).val) (512 + (y 2).val)) (hX3 : ∀ y, X3 y = T (r0 + (y 1).val) (768 + (y 2).val)) (hX4 : ∀ y, X4 y = T (r0 + (y 1).val) (1024 + (y 2).val)) (hX5 : ∀ y, X5 y = T (r0 + (y 1).val) (1280 + (y 2).val)) (hX6 : ∀ y, X6 y = T (r0 + (y 1).val) (1536 + (y 2).val)) (hX7 : ∀ y, X7 y = T (r0 + (y 1).val) (1792 + (y 2).val)) (hX8 : ∀ y, X8 y = T (r0 + (y 1).val) (2048 + (y 2).val)) (hX9 : ∀ y, X9 y = T (r0 + (y 1).val) (2304 + (y 2).val)) (hX10 : ∀ y, X10 y = T (r0 + (y 1).val) (2560 + (y 2).val)) (hX11 : ∀ y, X11 y = T (r0 + (y 1).val) (2816 + (y 2).val))
    (hZ : ∀ y, Z y = 0) (hR : R = r0 + o) (p : Fin 8) (l : Fin 128) :
    scale8 (mat o hi h1 h2 p1 p2 (amF X0 a1 a2 a3 a4 a5) (amF X1 a1 a2 a3 a4 a5) (amF X2 a1 a2 a3 a4 a5) (amF X3 a1 a2 a3 a4 a5) (amF X4 a1 a2 a3 a4 a5) (amF X5 a1 a2 a3 a4 a5) (amF X6 a1 a2 a3 a4 a5) (amF X7 a1 a2 a3 a4 a5) (amF X8 a1 a2 a3 a4 a5) (amF X9 a1 a2 a3 a4 a5) (amF X10 a1 a2 a3 a4 a5) (amF X11 a1 a2 a3 a4 a5) Z) t1 t2 b1 b2 b3 b4 b5 (ix2 p l) = lane T R p.val l.val := by
  subst hR
  rw [scale8_apply, mat_apply o _ _ _ _ _ _ _ _ _ _ _ _ _ _ _ _ _ _ (fun h r => amx T (r0 + r) (256 * h))
    (fun r => amF_apply _ _ _ _ _ _ T r0 (256 * 0) hX0 r 0) (fun r => amF_apply _ _ _ _ _ _ T r0 (256 * 1) hX1 r 0) (fun r => amF_apply _ _ _ _ _ _ T r0 (256 * 2) hX2 r 0) (fun r => amF_apply _ _ _ _ _ _ T r0 (256 * 3) hX3 r 0) (fun r => amF_apply _ _ _ _ _ _ T r0 (256 * 4) hX4 r 0) (fun r => amF_apply _ _ _ _ _ _ T r0 (256 * 5) hX5 r 0) (fun r => amF_apply _ _ _ _ _ _ T r0 (256 * 6) hX6 r 0) (fun r => amF_apply _ _ _ _ _ _ T r0 (256 * 7) hX7 r 0) (fun r => amF_apply _ _ _ _ _ _ T r0 (256 * 8) hX8 r 0) (fun r => amF_apply _ _ _ _ _ _ T r0 (256 * 9) hX9 r 0) (fun r => amF_apply _ _ _ _ _ _ T r0 (256 * 10) hX10 r 0) (fun r => amF_apply _ _ _ _ _ _ T r0 (256 * 11) hX11 r 0)]
  rw [hZ, lane]
  simp only [Nat.add_assoc]

/-- The exponents' scales stored: scaled by a constant, kept from a bound. -/
theorem c_piece {i : ℕ} {s : FVec Ideal ⟨2, ![8, 128]⟩ .f32} {kap tiny : Ideal .f32} {c1}
    {inb : ∀ a, (![i, 0, 0] : Fin 3 → ℕ) a + (⟨3, ![1, 8, 128]⟩ : Shape).size a ≤ (⟨3, ![10, 8, 128]⟩ : Shape).size a}
    {T : ℕ → ℕ → EReal} (hs : ∀ p l, s (ix2 p l) = lane T (64 * i) p.val l.val)
    (x : (Rect.unit (s := ⟨3, ![10, 8, 128]⟩) ![i, 0, 0] (⟨3, ![1, 8, 128]⟩ : Shape).size inb).shape.Idx) :
    (shapeCast ⟨3, ![1, 8, 128]⟩ (maximumf (mulf s (broadcast ⟨2, ![8, 128]⟩ kap)) (broadcast ⟨2, ![8, 128]⟩ tiny)) c1
        : (⟨3, ![1, 8, 128]⟩ : Shape).Idx → EReal) x
      = (fun y : (⟨3, ![10, 8, 128]⟩ : Shape).Idx => max (lane T (64 * (y 0).val) (y 1).val (y 2).val * kap) tiny)
          ((Rect.unit (s := ⟨3, ![10, 8, 128]⟩) ![i, 0, 0] (⟨3, ![1, 8, 128]⟩ : Shape).size inb).emb x) := by
  have f := fun a => ValueKit.rect_emb_unit_val (s := ⟨3, ![10, 8, 128]⟩) ![i, 0, 0] (⟨3, ![1, 8, 128]⟩ : Shape).size inb x a
  have x0 : (x 0).val < 1 := (x 0).isLt
  have e : ∀ Y : FVec Ideal ⟨2, ![8, 128]⟩ .f32, shapeCast ⟨3, ![1, 8, 128]⟩ Y c1 x = Y (ix2 ⟨(x 1).val, (x 1).isLt⟩ ⟨(x 2).val, (x 2).isLt⟩) := by
    intro Y; pointwise
  refine (e _).trans ?_
  show max (s _ * kap) tiny = max (lane T _ _ _ * kap) tiny
  rw [hs, f 0, f 1, f 2]
  have g0 : (![i, 0, 0] : Fin 3 → ℕ) 0 + (x 0).val = i := by show i + _ = i; omega
  have g1 : (![i, 0, 0] : Fin 3 → ℕ) 1 + (x 1).val = (x 1).val := Nat.zero_add _
  have g2 : (![i, 0, 0] : Fin 3 → ℕ) 2 + (x 2).val = (x 2).val := Nat.zero_add _
  rw [g0, g1, g2]

/-- Lanes below sixty-four from one square of lanes, the others from another. -/
def below (hi : (⟨2, ![128, 128]⟩ : Shape).Iotas .tc 32 [1]) (hj : (⟨2, ![128, 128]⟩ : Shape).Slices ![0, 0] ⟨2, ![8, 128]⟩)
    (A B : FVec Ideal ⟨2, ![8, 128]⟩ .f32) : FVec Ideal ⟨2, ![8, 128]⟩ .f32 :=
  select (cmpi .slt (extractStridedSlice ⟨2, ![8, 128]⟩ ![0, 0] (iota .tc ⟨2, ![128, 128]⟩ 32 [1] hi) hj) (broadcast ⟨2, ![8, 128]⟩ 64#32)) A B

/-- The choice between two blocks by the half of the lanes, at an index. -/
theorem below_apply (hi hj A B) (p : Fin 8) (l : Fin 128) : below hi hj A B (ix2 p l) = if l.val < 64 then A (ix2 p l) else B (ix2 p l) := by
  have e : ∀ l : Fin 128, (IntOp.cmpi .slt (BitVec.ofNat 32 l.val) 64#32 = 1#1) ↔ l.val < 64 := by decide +kernel
  pointwise [below]
  exact if_congr (e l) rfl rfl

/-- The rotation by half the lanes, at an index. -/
theorem rot_apply (A : FVec Ideal ⟨2, ![8, 128]⟩ .f32) (h : (⟨2, ![8, 128]⟩ : Shape).Rotates 1 none) (p : Fin 8) (l : Fin 128) :
    dynamicRotate (s := ⟨2, ![8, 128]⟩) 1 64#32 none A h (ix2 p l) = A (ix2 p ⟨(l.val + 64) % 128, Nat.mod_lt _ (by decide)⟩) := by
  refine congrArg A (funext fun a => ?_)
  match a with
  | ⟨0, _⟩ => rfl
  | ⟨1, _⟩ =>
    refine Fin.ext ?_
    show (l.val + 128 - 64 % 128) % 128 = (l.val + 64) % 128
    rw [show l.val + 128 - 64 % 128 = l.val + 64 by omega]

/-- One row of lanes, as it is stored. -/
theorem row_piece {h r0 q : ℕ} {s : FVec Ideal ⟨2, ![8, 128]⟩ .f32} {g1 g2}
    {inb : ∀ a, (![0, h, r0] : Fin 3 → ℕ) a + (⟨3, ![1, 1, 128]⟩ : Shape).size a ≤ (⟨3, ![1, 12, 640]⟩ : Shape).size a}
    (G : ℕ → ℕ → EReal) (hq : q < 8) (hs : ∀ l : Fin 128, s (ix2 ⟨q, hq⟩ l) = G h (r0 + l.val))
    (x : (Rect.unit (s := ⟨3, ![1, 12, 640]⟩) ![0, h, r0] (⟨3, ![1, 1, 128]⟩ : Shape).size inb).shape.Idx) :
    (shapeCast ⟨3, ![1, 1, 128]⟩ (extractStridedSlice ⟨2, ![1, 128]⟩ ![q, 0] s g1) g2 : (⟨3, ![1, 1, 128]⟩ : Shape).Idx → EReal) x
      = (fun y : (⟨3, ![1, 12, 640]⟩ : Shape).Idx => G (y 1).val (y 2).val)
          ((Rect.unit (s := ⟨3, ![1, 12, 640]⟩) ![0, h, r0] (⟨3, ![1, 1, 128]⟩ : Shape).size inb).emb x) := by
  have f := fun a => ValueKit.rect_emb_unit_val (s := ⟨3, ![1, 12, 640]⟩) ![0, h, r0] (⟨3, ![1, 1, 128]⟩ : Shape).size inb x a
  have x1 : (x 1).val < 1 := (x 1).isLt
  have e0 : ∀ Y : FVec Ideal ⟨2, ![1, 128]⟩ .f32, shapeCast ⟨3, ![1, 1, 128]⟩ Y g2 x = Y (ix2 0 ⟨(x 2).val, (x 2).isLt⟩) := by
    intro Y; pointwise
  have e1 : extractStridedSlice ⟨2, ![1, 128]⟩ ![q, 0] s g1 (ix2 0 ⟨(x 2).val, (x 2).isLt⟩) = s (ix2 ⟨q, hq⟩ ⟨(x 2).val, (x 2).isLt⟩) := by
    refine congrArg s (funext fun a => Fin.ext ?_)
    match a with
    | ⟨0, _⟩ => rfl
    | ⟨1, _⟩ => exact Nat.zero_add _
  refine (e0 _).trans (e1.trans ?_)
  rw [hs]
  show _ = G _ _
  rw [f 1, f 2]
  have q1 : (![0, h, r0] : Fin 3 → ℕ) 1 + (x 1).val = h := by show h + _ = h; omega
  rw [q1]
  rfl

/-- An even head's scales for 128 rows, from the two halves' lanes. -/
theorem even_piece {h r0 q : ℕ} {s0 s1 : FVec Ideal ⟨2, ![8, 128]⟩ .f32} {hi hj hr g1 g2}
    {inb : ∀ a, (![0, h, r0] : Fin 3 → ℕ) a + (⟨3, ![1, 1, 128]⟩ : Shape).size a ≤ (⟨3, ![1, 12, 640]⟩ : Shape).size a}
    {T : ℕ → ℕ → EReal} (hs0 : ∀ p l, s0 (ix2 p l) = lane T r0 p.val l.val) (hs1 : ∀ p l, s1 (ix2 p l) = lane T (r0 + 64) p.val l.val)
    (hq : q < 6 ∧ h = 2 * q)
    (x : (Rect.unit (s := ⟨3, ![1, 12, 640]⟩) ![0, h, r0] (⟨3, ![1, 1, 128]⟩ : Shape).size inb).shape.Idx) :
    (shapeCast ⟨3, ![1, 1, 128]⟩ (extractStridedSlice ⟨2, ![1, 128]⟩ ![q, 0] (below hi hj s0 (dynamicRotate (s := ⟨2, ![8, 128]⟩) 1 64#32 none s1 hr)) g1) g2
        : (⟨3, ![1, 1, 128]⟩ : Shape).Idx → EReal) x
      = (fun y : (⟨3, ![1, 12, 640]⟩ : Shape).Idx => scl T (y 1).val (y 2).val)
          ((Rect.unit (s := ⟨3, ![1, 12, 640]⟩) ![0, h, r0] (⟨3, ![1, 1, 128]⟩ : Shape).size inb).emb x) := by
  refine row_piece (scl T) (by omega) (fun l => ?_) x
  obtain ⟨hq, rfl⟩ := hq
  rw [below_apply, rot_apply, hs0, hs1, lane, lane, if_pos hq, scl]
  dsimp only
  split
  · rw [show 2 * q + l.val / 64 = 2 * q by omega, show l.val % 64 = l.val by omega]
  · rw [show 2 * q + (l.val + 64) % 128 / 64 = 2 * q by omega, show r0 + 64 + (l.val + 64) % 128 % 64 = r0 + l.val by omega]

/-- An odd head's scales for 128 rows, from the two halves' lanes. -/
theorem odd_piece {h r0 q : ℕ} {s0 s1 : FVec Ideal ⟨2, ![8, 128]⟩ .f32} {hi hj hr g1 g2}
    {inb : ∀ a, (![0, h, r0] : Fin 3 → ℕ) a + (⟨3, ![1, 1, 128]⟩ : Shape).size a ≤ (⟨3, ![1, 12, 640]⟩ : Shape).size a}
    {T : ℕ → ℕ → EReal} (hs0 : ∀ p l, s0 (ix2 p l) = lane T r0 p.val l.val) (hs1 : ∀ p l, s1 (ix2 p l) = lane T (r0 + 64) p.val l.val)
    (hq : q < 6 ∧ h = 2 * q + 1)
    (x : (Rect.unit (s := ⟨3, ![1, 12, 640]⟩) ![0, h, r0] (⟨3, ![1, 1, 128]⟩ : Shape).size inb).shape.Idx) :
    (shapeCast ⟨3, ![1, 1, 128]⟩ (extractStridedSlice ⟨2, ![1, 128]⟩ ![q, 0] (below hi hj (dynamicRotate (s := ⟨2, ![8, 128]⟩) 1 64#32 none s0 hr) s1) g1) g2
        : (⟨3, ![1, 1, 128]⟩ : Shape).Idx → EReal) x
      = (fun y : (⟨3, ![1, 12, 640]⟩ : Shape).Idx => scl T (y 1).val (y 2).val)
          ((Rect.unit (s := ⟨3, ![1, 12, 640]⟩) ![0, h, r0] (⟨3, ![1, 1, 128]⟩ : Shape).size inb).emb x) := by
  refine row_piece (scl T) (by omega) (fun l => ?_) x
  obtain ⟨hq, rfl⟩ := hq
  rw [below_apply, rot_apply, hs0, hs1, lane, lane, if_pos hq, scl]
  dsimp only
  split
  · rw [show 2 * q + (l.val + 64) % 128 / 64 = 2 * q + 1 by omega, show (l.val + 64) % 128 % 64 = l.val by omega]
  · rw [show 2 * q + l.val / 64 = 2 * q + 1 by omega, show r0 + 64 + l.val % 64 = r0 + l.val by omega]

end Cert.Fp8
-- ==== Proof.Loads.lean ====
module

public import proofs.«01_k».proof.Proof.Pieces
public import Idealize.ShloMosaic.Lib.WholeRead

@[expose] public section

set_option maxRecDepth 16384

noncomputable section

namespace Cert.Fp8

open Idealize.ShloMosaic Idealize.ShloMosaic.TcCoe

/-- A block loaded from an input buffer that holds `X`. -/
theorem load_in {sig : RefSig} {W r0 c0 n w : ℕ} {e : EltTy} {m : Memref sig .tc .vmem ⟨3, ![1, 640, W]⟩ e} {h : m.IsWhole}
    {X : (⟨3, ![1, 640, W]⟩ : Shape).Idx → Elt Ideal e} {T : ℕ → ℕ → Elt Ideal e} (hx : ∀ y, X y = T (y 1).val (y 2).val)
    {inb : ∀ a, (![0, r0, c0] : Fin 3 → ℕ) a + (⟨3, ![1, n, w]⟩ : Shape).size a ≤ (⟨3, ![1, 640, W]⟩ : Shape).size a}
    (y : (⟨3, ![1, n, w]⟩ : Shape).Idx) :
    View.readAt (Elt Ideal) m.view (Rect.unit (s := ⟨3, ![1, 640, W]⟩) ![0, r0, c0] (⟨3, ![1, n, w]⟩ : Shape).size inb).toLoadRect (h.unread X) y
      = T (r0 + (y 1).val) (c0 + (y 2).val) := by
  refine (h.readAt_unread X (Rect.unit (s := ⟨3, ![1, 640, W]⟩) ![0, r0, c0] (⟨3, ![1, n, w]⟩ : Shape).size inb).toLoadRect y).trans ((hx _).trans ?_)
  exact congrArg₂ T (Rect.idx_unit_val (s := ⟨3, ![1, 640, W]⟩) ![0, r0, c0] (⟨3, ![1, n, w]⟩ : Shape).size inb y 1)
    (Rect.idx_unit_val (s := ⟨3, ![1, 640, W]⟩) ![0, r0, c0] (⟨3, ![1, n, w]⟩ : Shape).size inb y 2)

/-- A stretch of segments loaded from the input buffer that holds them. -/
theorem load_seg {sig : RefSig} {r0 n : ℕ} {m : Memref sig .tc .vmem ⟨3, ![1, 1, 640]⟩ .i32} {h : m.IsWhole}
    {X : (⟨3, ![1, 1, 640]⟩ : Shape).Idx → Elt Ideal .i32} {T : ℕ → BitVec 32} (hx : ∀ y, X y = T (y 2).val)
    {inb : ∀ a, (![0, 0, r0] : Fin 3 → ℕ) a + (⟨3, ![1, 1, n]⟩ : Shape).size a ≤ (⟨3, ![1, 1, 640]⟩ : Shape).size a}
    (y : (⟨3, ![1, 1, n]⟩ : Shape).Idx) :
    View.readAt (Elt Ideal) m.view (Rect.unit (s := ⟨3, ![1, 1, 640]⟩) ![0, 0, r0] (⟨3, ![1, 1, n]⟩ : Shape).size inb).toLoadRect (h.unread X) y
      = T (r0 + (y 2).val) := by
  refine (h.readAt_unread X (Rect.unit (s := ⟨3, ![1, 1, 640]⟩) ![0, 0, r0] (⟨3, ![1, 1, n]⟩ : Shape).size inb).toLoadRect y).trans ((hx _).trans ?_)
  exact congrArg T (Rect.idx_unit_val (s := ⟨3, ![1, 1, 640]⟩) ![0, 0, r0] (⟨3, ![1, 1, n]⟩ : Shape).size inb y 2)

section Cov

variable {sig : RefSig} {κ : Kind} {sp : Space} {e : EltTy}

/-- What a covering list of writes leaves, read anywhere. -/
theorem cov {s : Shape} (v : View sig κ sp s e) {L : List (View.Piece (Elt Ideal) s e)} {G : s.Idx → Elt Ideal e} (hP : View.PiecesOf G L)
    (hC : ∀ y, ∃ pc ∈ L, y ∈ pc.1.set) (y : s.Idx) : v.read (Elt Ideal) (v.writes (Elt Ideal) v.junk L) y = G y := by
  rw [View.read_writes_junk_apply_eq_canon]
  have := View.canon_append_of_piecesOf G [] L hP y (hC y)
  rwa [List.append_nil] at this

/-- A load from a two-dimensional buffer written in pieces reads the function the pieces come from. -/
theorem load2 {v0 v1 o0 o1 n0 n1 : ℕ} {v : View sig κ sp ⟨2, ![v0, v1]⟩ e} {L : List (View.Piece (Elt Ideal) ⟨2, ![v0, v1]⟩ e)}
    (G : ℕ → ℕ → Elt Ideal e) (hP : View.PiecesOf (fun y => G (y 0).val (y 1).val) L) (hC : ∀ y, ∃ pc ∈ L, y ∈ pc.1.set)
    {inb : ∀ a, (![o0, o1] : Fin 2 → ℕ) a + (⟨2, ![n0, n1]⟩ : Shape).size a ≤ (⟨2, ![v0, v1]⟩ : Shape).size a} (a : Fin n0) (b : Fin n1) :
    v.readCov L (Rect.unit (s := ⟨2, ![v0, v1]⟩) ![o0, o1] (⟨2, ![n0, n1]⟩ : Shape).size inb).toLoadRect (ix2 a b) = G (o0 + a.val) (o1 + b.val) := by
  refine (cov v hP hC _).trans ?_
  exact congrArg₂ G (Rect.idx_unit_val (s := ⟨2, ![v0, v1]⟩) ![o0, o1] (⟨2, ![n0, n1]⟩ : Shape).size inb (ix2 a b) 0)
    (Rect.idx_unit_val (s := ⟨2, ![v0, v1]⟩) ![o0, o1] (⟨2, ![n0, n1]⟩ : Shape).size inb (ix2 a b) 1)

/-- The same in three dimensions. -/
theorem load3 {v0 v1 v2 o0 o1 o2 n0 n1 n2 : ℕ} {v : View sig κ sp ⟨3, ![v0, v1, v2]⟩ e} {L : List (View.Piece (Elt Ideal) ⟨3, ![v0, v1, v2]⟩ e)}
    (G : ℕ → ℕ → ℕ → Elt Ideal e) (hP : View.PiecesOf (fun y => G (y 0).val (y 1).val (y 2).val) L) (hC : ∀ y, ∃ pc ∈ L, y ∈ pc.1.set)
    {inb : ∀ a, (![o0, o1, o2] : Fin 3 → ℕ) a + (⟨3, ![n0, n1, n2]⟩ : Shape).size a ≤ (⟨3, ![v0, v1, v2]⟩ : Shape).size a}
    (a : Fin n0) (b : Fin n1) (c : Fin n2) :
    v.readCov L (Rect.unit (s := ⟨3, ![v0, v1, v2]⟩) ![o0, o1, o2] (⟨3, ![n0, n1, n2]⟩ : Shape).size inb).toLoadRect (ix3 a b c) = G (o0 + a.val) (o1 + b.val) (o2 + c.val) := by
  refine (cov v hP hC _).trans ?_
  have f := fun k => Rect.idx_unit_val (s := ⟨3, ![v0, v1, v2]⟩) ![o0, o1, o2] (⟨3, ![n0, n1, n2]⟩ : Shape).size inb (ix3 a b c) k
  show G _ _ _ = _
  rw [f 0, f 1, f 2]
  rfl

/-- The same in four dimensions. -/
theorem load4 {v0 v1 v2 v3 o0 o1 o2 o3 n0 n1 n2 n3 : ℕ} {v : View sig κ sp ⟨4, ![v0, v1, v2, v3]⟩ e} {L : List (View.Piece (Elt Ideal) ⟨4, ![v0, v1, v2, v3]⟩ e)}
    (G : ℕ → ℕ → ℕ → Elt Ideal e) (hP : View.PiecesOf (fun y => G (y 1).val (y 2).val (y 3).val) L) (hC : ∀ y, ∃ pc ∈ L, y ∈ pc.1.set)
    {inb : ∀ a, (![o0, o1, o2, o3] : Fin 4 → ℕ) a + (⟨4, ![n0, n1, n2, n3]⟩ : Shape).size a ≤ (⟨4, ![v0, v1, v2, v3]⟩ : Shape).size a}
    (z : Fin n0) (a : Fin n1) (b : Fin n2) (c : Fin n3) :
    v.readCov L (Rect.unit (s := ⟨4, ![v0, v1, v2, v3]⟩) ![o0, o1, o2, o3] (⟨4, ![n0, n1, n2, n3]⟩ : Shape).size inb).toLoadRect (ix4 z a b c) = G (o1 + a.val) (o2 + b.val) (o3 + c.val) := by
  refine (cov v hP hC _).trans ?_
  have f := fun k => Rect.idx_unit_val (s := ⟨4, ![v0, v1, v2, v3]⟩) ![o0, o1, o2, o3] (⟨4, ![n0, n1, n2, n3]⟩ : Shape).size inb (ix4 z a b c) k
  show G _ _ _ = _
  rw [f 1, f 2, f 3]
  rfl

end Cov

end Cert.Fp8
-- ==== Proof.Quants.lean ====
module

public import proofs.«01_k».proof.Proof.Loads
public import proofs.«01_k».proof.Proof.Gen.KernelIdeal.Frame

@[expose] public section

set_option maxRecDepth 16384

noncomputable section

namespace Cert.Fp8

open Idealize.ShloMosaic Idealize.ShloMosaic.TcCoe Cert.KernelIdeal Cert.KernelIdeal.Gen Cert.KernelIdeal.Gen.kernelRun0_A

attribute [local irreducible] dynamicRotate select shapeCast extractStridedSlice transpose broadcastTo concatenate multiReduction multiReductionI
  iota cmpi cmpf andi shli subi extui trunci bitcastToFloat absf mulf maximumf minimumf extf truncf sitofp fptosi

/-- The stored key codes. -/
theorem kc_pieces (c : Dev nD) (arg2 : Memref sig .tc .vmem S1x640x512 .bf16) (harg2 : arg2.IsWhole) (x1 : Vec Ideal S1x640x512 .bf16) {T : ℕ → ℕ → EReal} (hx : ∀ y, x1 y = T (y 1).val (y 2).val) :
    View.PiecesOf (fun y : S1x2x640x256.Idx => cod T (y 1).val (y 2).val (y 3).val) (sl.H7_10 c arg2 harg2 x1 : List (View.Piece (Elt Ideal) S1x2x640x256 .fp8e4m3)) := by
  repeat refine ⟨codes_piece (inb := by decide) (load_in hx) rfl, ?_⟩
  trivial

/-- The stores of the key codes cover the buffer. -/
theorem kc_cover (c : Dev nD) (arg2 : Memref sig .tc .vmem S1x640x512 .bf16) (harg2 : arg2.IsWhole) (x1 : Vec Ideal S1x640x512 .bf16) (y : S1x2x640x256.Idx) : ∃ pc ∈ (sl.H7_10 c arg2 harg2 x1 : List (View.Piece (Elt Ideal) S1x2x640x256 .fp8e4m3)), y ∈ pc.1.set :=
  View.cover_of_tiledL (sl.H7_10 c arg2 harg2 x1 : List (View.Piece (Elt Ideal) S1x2x640x256 .fp8e4m3)) S1x1x128x256.size (by sl_kernel_rfl) y

/-- The key scales across the lanes. -/
theorem kcol_pieces (c : Dev nD) (arg2 : Memref sig .tc .vmem S1x640x512 .bf16) (harg2 : arg2.IsWhole) (x1 : Vec Ideal S1x640x512 .bf16) {T : ℕ → ℕ → EReal} (hx : ∀ y, x1 y = T (y 1).val (y 2).val) :
    View.PiecesOf (fun y : S2x640x128.Idx => scl T (y 0).val (y 1).val) (sl.HS1_10 c arg2 harg2 x1 : List (View.Piece (Elt Ideal) S2x640x128 .f32)) := by
  repeat refine ⟨kcol_piece (c2 := by decide) (inb := by decide) (load_in hx) rfl, ?_⟩
  trivial

/-- The stores of the key scales cover the scratch buffer. -/
theorem kcol_cover (c : Dev nD) (arg2 : Memref sig .tc .vmem S1x640x512 .bf16) (harg2 : arg2.IsWhole) (x1 : Vec Ideal S1x640x512 .bf16) (y : S2x640x128.Idx) : ∃ pc ∈ (sl.HS1_10 c arg2 harg2 x1 : List (View.Piece (Elt Ideal) S2x640x128 .f32)), y ∈ pc.1.set :=
  View.cover_of_tiledL (sl.HS1_10 c arg2 harg2 x1 : List (View.Piece (Elt Ideal) S2x640x128 .f32)) S1x128x128.size (by sl_kernel_rfl) y

/-- The dequantised values, transposed. -/
theorem vt_pieces (c : Dev nD) (arg3 : Memref sig .tc .vmem S1x640x512 .bf16) (harg3 : arg3.IsWhole) (x2 : Vec Ideal S1x640x512 .bf16) {T : ℕ → ℕ → EReal} (hx : ∀ y, x2 y = T (y 1).val (y 2).val) :
    View.PiecesOf (fun y : S2x256x640.Idx => cod T (y 0).val (y 2).val (y 1).val * scl T (y 0).val (y 2).val) (sl.HS0_10 c arg3 harg3 x2 : List (View.Piece (Elt Ideal) S2x256x640 .bf16)) := by
  repeat refine ⟨vt_piece (inb := by decide) (load_in hx) rfl, ?_⟩
  trivial

/-- The stores of the transposed values cover the scratch buffer. -/
theorem vt_cover (c : Dev nD) (arg3 : Memref sig .tc .vmem S1x640x512 .bf16) (harg3 : arg3.IsWhole) (x2 : Vec Ideal S1x640x512 .bf16) (y : S2x256x640.Idx) : ∃ pc ∈ (sl.HS0_10 c arg3 harg3 x2 : List (View.Piece (Elt Ideal) S2x256x640 .bf16)), y ∈ pc.1.set :=
  View.cover_of_tiledL (sl.HS0_10 c arg3 harg3 x2 : List (View.Piece (Elt Ideal) S2x256x640 .bf16)) S1x256x128.size (by sl_kernel_rfl) y

/-- The segments down the rows. -/
theorem segcol_pieces (c : Dev nD) (arg4 : Memref sig .tc .vmem S1x1x640 .i32) (harg4 : arg4.IsWhole) (x3 : Vec Ideal S1x1x640 .i32) {T : ℕ → BitVec 32} (hx : ∀ y, x3 y = T (y 2).val) :
    View.PiecesOf (fun y : S640x128.Idx => T (y 0).val) (sl.HS2_5 c arg4 harg4 x3 : List (View.Piece (Elt Ideal) S640x128 .i32)) := by
  repeat refine ⟨segcol_piece (inb := by decide) (load_seg hx), ?_⟩
  trivial

/-- The stores of the segment columns cover the scratch buffer. -/
theorem segcol_cover (c : Dev nD) (arg4 : Memref sig .tc .vmem S1x1x640 .i32) (harg4 : arg4.IsWhole) (x3 : Vec Ideal S1x1x640 .i32) (y : S640x128.Idx) : ∃ pc ∈ (sl.HS2_5 c arg4 harg4 x3 : List (View.Piece (Elt Ideal) S640x128 .i32)), y ∈ pc.1.set :=
  View.cover_of_tiledL (sl.HS2_5 c arg4 harg4 x3 : List (View.Piece (Elt Ideal) S640x128 .i32)) S128x128.size (by sl_kernel_rfl) y

/-- The stored query codes. -/
theorem qc_pieces (c : Dev nD) (arg1 : Memref sig .tc .vmem S1x640x3072 .bf16) (harg1 : arg1.IsWhole) (x0 : Vec Ideal S1x640x3072 .bf16) {T : ℕ → ℕ → EReal} (hx : ∀ y, x0 y = T (y 1).val (y 2).val) :
    View.PiecesOf (fun y : S1x12x640x256.Idx => cod T (y 1).val (y 2).val (y 3).val) (sl.H5_60 c arg1 harg1 x0 : List (View.Piece (Elt Ideal) S1x12x640x256 .fp8e4m3)) := by
  repeat refine ⟨codes_piece (inb := by decide) (load_in hx) rfl, ?_⟩
  trivial

/-- The stores of the query codes cover the buffer. -/
theorem qc_cover (c : Dev nD) (arg1 : Memref sig .tc .vmem S1x640x3072 .bf16) (harg1 : arg1.IsWhole) (x0 : Vec Ideal S1x640x3072 .bf16) (y : S1x12x640x256.Idx) : ∃ pc ∈ (sl.H5_60 c arg1 harg1 x0 : List (View.Piece (Elt Ideal) S1x12x640x256 .fp8e4m3)), y ∈ pc.1.set :=
  View.cover_of_tiledL (sl.H5_60 c arg1 harg1 x0 : List (View.Piece (Elt Ideal) S1x12x640x256 .fp8e4m3)) S1x1x128x256.size (by sl_kernel_rfl) y

/-- The scale of an exponent: a scale times the softmax scale in base two, kept from below. -/
def cof (T : ℕ → ℕ → EReal) (i p l : ℕ) : EReal :=
  max (lane T (64 * i) p l * (Named.named κ "sm_log2e" 0x3DB8AA3B#32 : Ideal .f32)) (Ideal.ofBits .f32 0x00800000#32)

/-- The scales of the exponents. -/
theorem c_pieces (c : Dev nD) (arg1 : Memref sig .tc .vmem S1x640x3072 .bf16) (harg1 : arg1.IsWhole) (x0 : Vec Ideal S1x640x3072 .bf16) {T : ℕ → ℕ → EReal} (hx : ∀ y, x0 y = T (y 1).val (y 2).val) :
    View.PiecesOf (fun y : S10x8x128.Idx => cof T (y 0).val (y 1).val (y 2).val) (sl.HS3_10 c arg1 harg1 x0 : List (View.Piece (Elt Ideal) S10x8x128 .f32)) := by
  repeat refine ⟨c_piece (inb := by decide) (fun p l => lanes (load_in hx) (load_in hx) (load_in hx) (load_in hx) (load_in hx) (load_in hx) (load_in hx) (load_in hx) (load_in hx) (load_in hx) (load_in hx) (load_in hx) (fun _ => Ideal.ofBits_zero_f32) rfl p l), ?_⟩
  trivial

/-- The stores of the exponent factors cover the scratch buffer. -/
theorem c_cover (c : Dev nD) (arg1 : Memref sig .tc .vmem S1x640x3072 .bf16) (harg1 : arg1.IsWhole) (x0 : Vec Ideal S1x640x3072 .bf16) (y : S10x8x128.Idx) : ∃ pc ∈ (sl.HS3_10 c arg1 harg1 x0 : List (View.Piece (Elt Ideal) S10x8x128 .f32)), y ∈ pc.1.set :=
  View.cover_of_tiledL (sl.HS3_10 c arg1 harg1 x0 : List (View.Piece (Elt Ideal) S10x8x128 .f32)) S1x8x128.size (by sl_kernel_rfl) y

end Cert.Fp8
-- ==== Proof.Att.lean ====
module

public import proofs.«01_k».proof.Proof.Tile
public import Idealize.ShloMosaic.Lib.Pipeline.ReadBack

@[expose] public section

set_option maxRecDepth 16384

noncomputable section

namespace Cert.Fp8

open Idealize.ShloMosaic Idealize.ShloMosaic.TcCoe

/-- What a query row's key `k` scores before the row's own factor: the codes' product by the key's scale, minus infinity out of sight. -/
def score (K : ℕ → ℕ → EReal) (S : ℕ → EReal) (Q : ℕ → EReal) (sg : ℕ → BitVec 32) (r k : ℕ) : EReal :=
  (∑ d : Fin 256, K k d * Q d) * S k + if sg k = sg r ∧ k ≤ r then 0 else ⊥

/-- A key's weight among the first `n`, 256 at the largest. -/
def weight (n : ℕ) (t : ℕ → EReal) (c : EReal) (k : ℕ) : EReal :=
  Ideal.exp2 (t k * c - ((Finset.univ.fold max ⊥ fun x : Fin n => t x) * c - 8))

/-- One element of the attention output over the first `n` keys. -/
def att (n : ℕ) (t : ℕ → EReal) (c : EReal) (V : ℕ → EReal) : EReal :=
  (∑ k : Fin n, V k * clip (weight n t c k)) * Ideal.div 1 (∑ k : Fin n, weight n t c k)

/-- One slab of a tile, its scores and weights in the plain form. -/
theorem slab_apply (n o : ℕ) (vis raw kcol) (c : FVec Ideal ⟨3, ![1, 1, 128]⟩ .f32) (h1 h2 g1 g2 g3 g4) (T : ℕ → ℕ → EReal) (C : ℕ → EReal) (ho : o + 128 ≤ 384)
    (hT : ∀ (k : Fin n) (l : Fin 128), raw (ix2 k ⟨o + l.val, by omega⟩) * kcol (ix3 0 k l) + (if vis (ix2 k l) = 1#1 then 0 else ⊥) = T (o + l.val) k)
    (hC : ∀ l : Fin 128, c (ix3 0 0 l) = C (o + l.val)) (k : Fin n) (l : Fin 128) :
    slabP n (slabT n ![0, o] vis raw kcol h1 h2) c g1 g2 g3 g4 (ix2 k l) = weight n (T (o + l.val)) (C (o + l.val)) k := by
  rw [slabP_apply, hC]
  have e : ∀ x : Fin n, slabT n ![0, o] vis raw kcol h1 h2 (ix2 x l) = T (o + l.val) x := fun x => by
    rw [slabT_apply n o vis raw kcol h1 h2 ho, hT]
  rw [e k]
  simp only [e]
  rfl

/-- A tile's element: six heads of 64 query rows, the operands as functions of whole indices. -/
theorem tile_apply (n i0 h0 g p0 : ℕ) (q0 : BitVec 32) (sg : IVec ⟨2, ![n, 128]⟩ 32) (sq : IVec ⟨3, ![1, 1, 64]⟩ 32)
    (q : FVec Ideal ⟨4, ![1, 6, 64, 256]⟩ .fp8e4m3) (k : FVec Ideal ⟨4, ![1, 1, n, 256]⟩ .fp8e4m3)
    (kcol : FVec Ideal ⟨3, ![1, n, 128]⟩ .f32) (c0 c1 c2 : FVec Ideal ⟨3, ![1, 1, 128]⟩ .f32) (v : FVec Ideal ⟨3, ![1, 256, n]⟩ .bf16)
    (a1 a2 a3 a4 a5 a6 b1 b2 b3 d1 d2 d2' d2'' d3 d4 d5 d6 e2 e3 e4 e5 e6)
    (SG : ℕ → BitVec 32) (Q K : ℕ → ℕ → ℕ → EReal) (S : ℕ → ℕ → EReal) (C : ℕ → ℕ → ℕ → EReal) (V : ℕ → ℕ → ℕ → EReal)
    (hn : n ≤ 640) (hi : i0 ≤ 640) (hq0 : q0 = BitVec.ofNat 32 i0)
    (hsg : ∀ k l, sg (ix2 k l) = SG (0 + k.val)) (hsq : ∀ a b l, sq (ix3 a b l) = SG (i0 + l.val))
    (hq : ∀ z a b d, q (ix4 z a b d) = Q (h0 + a.val) (i0 + b.val) (0 + d.val))
    (hk : ∀ z a b d, k (ix4 z a b d) = K (g + a.val) (0 + b.val) (0 + d.val))
    (hs : ∀ a b l, kcol (ix3 a b l) = S (g + a.val) (0 + b.val))
    (i : ℕ)
    (hc0 : ∀ a b l, c0 (ix3 a b l) = C (i + a.val) (p0 + 0 + b.val) (0 + l.val))
    (hc1 : ∀ a b l, c1 (ix3 a b l) = C (i + a.val) (p0 + 1 + b.val) (0 + l.val))
    (hc2 : ∀ a b l, c2 (ix3 a b l) = C (i + a.val) (p0 + 2 + b.val) (0 + l.val))
    (hv : ∀ a b l, v (ix3 a b l) = V (g + a.val) (0 + b.val) (0 + l.val)) (l : Fin 384) (d : Fin 256) :
    tileOut n v
      (slabC n (slabP n (slabT n ![0, 0] (visible n q0 sg sq a1 a2 a3 a4 a5 a6) (tileRaw n q k b1 b2 b3) kcol d1 d2) c0 d3 d4 d5 d6))
      (slabC n (slabP n (slabT n ![0, 128] (visible n q0 sg sq a1 a2 a3 a4 a5 a6) (tileRaw n q k b1 b2 b3) kcol d1 d2') c1 d3 d4 d5 d6))
      (slabC n (slabP n (slabT n ![0, 256] (visible n q0 sg sq a1 a2 a3 a4 a5 a6) (tileRaw n q k b1 b2 b3) kcol d1 d2'') c2 d3 d4 d5 d6))
      (slabR n (slabP n (slabT n ![0, 0] (visible n q0 sg sq a1 a2 a3 a4 a5 a6) (tileRaw n q k b1 b2 b3) kcol d1 d2) c0 d3 d4 d5 d6) d4 d5)
      (slabR n (slabP n (slabT n ![0, 128] (visible n q0 sg sq a1 a2 a3 a4 a5 a6) (tileRaw n q k b1 b2 b3) kcol d1 d2') c1 d3 d4 d5 d6) d4 d5)
      (slabR n (slabP n (slabT n ![0, 256] (visible n q0 sg sq a1 a2 a3 a4 a5 a6) (tileRaw n q k b1 b2 b3) kcol d1 d2'') c2 d3 d4 d5 d6) d4 d5)
      e2 e3 e4 e5 e6 (ix2 l d)
      = att n (score (K g) (S g) (Q (h0 + l.val / 64) (i0 + l.val % 64)) SG (i0 + l.val % 64))
          (C i (p0 + l.val / 128) (l.val % 128)) (V g d.val) := by
  subst hq0
  have hT : ∀ (o : ℕ) (ho : o + 128 ≤ 384) (ho' : o % 64 = 0) (k' : Fin n) (l : Fin 128),
      tileRaw n q k b1 b2 b3 (ix2 k' ⟨o + l.val, by omega⟩) * kcol (ix3 0 k' l)
        + (if visible n (BitVec.ofNat 32 i0) sg sq a1 a2 a3 a4 a5 a6 (ix2 k' l) = 1#1 then 0 else ⊥)
      = (fun L => score (K g) (S g) (Q (h0 + L / 64) (i0 + L % 64)) SG (i0 + L % 64)) (o + l.val) k' := by
    intro o ho ho' k' l
    have em : (o + l.val) % 64 = l.val % 64 := by omega
    simp only [score, tileRaw_apply, hk, hq, hs, Fin.val_zero, Nat.add_zero, Nat.zero_add, em]
    congr 1
    refine if_congr ?_ rfl rfl
    rw [visible_apply n i0 hn hi, hsg, hsq, Nat.zero_add]
  have hC : ∀ (j o : ℕ) (ho : o = 128 * j) (c : FVec Ideal ⟨3, ![1, 1, 128]⟩ .f32) (hc : ∀ a b l, c (ix3 a b l) = C (i + a.val) (p0 + j + b.val) (0 + l.val)) (l : Fin 128),
      c (ix3 0 0 l) = (fun L => C i (p0 + L / 128) (L % 128)) (o + l.val) := by
    intro j o ho c hc l
    subst ho
    rw [hc]
    have e1 : (128 * j + l.val) / 128 = j := by omega
    have e2 : (128 * j + l.val) % 128 = l.val := by omega
    simp only [e1, e2, Fin.val_zero, Nat.add_zero, Nat.zero_add]
  have w0 := slab_apply (T := fun L => score (K g) (S g) (Q (h0 + L / 64) (i0 + L % 64)) SG (i0 + L % 64)) (C := fun L => C i (p0 + L / 128) (L % 128)) n 0 _ _ kcol c0 d1 d2 d3 d4 d5 d6 (by omega) (hT 0 (by omega) (by omega)) (hC 0 0 rfl c0 hc0)
  have w1 := slab_apply (T := fun L => score (K g) (S g) (Q (h0 + L / 64) (i0 + L % 64)) SG (i0 + L % 64)) (C := fun L => C i (p0 + L / 128) (L % 128)) n 128 _ _ kcol c1 d1 d2' d3 d4 d5 d6 (by omega) (hT 128 (by omega) (by omega)) (hC 1 128 rfl c1 hc1)
  have w2 := slab_apply (T := fun L => score (K g) (S g) (Q (h0 + L / 64) (i0 + L % 64)) SG (i0 + L % 64)) (C := fun L => C i (p0 + L / 128) (L % 128)) n 256 _ _ kcol c2 d1 d2'' d3 d4 d5 d6 (by omega) (hT 256 (by omega) (by omega)) (hC 2 256 rfl c2 hc2)
  rw [tileOut_apply n v _ _ _ _ _ _ e2 e3 e4 e5 e6
    (fun k' L => clip (weight n (score (K g) (S g) (Q (h0 + L / 64) (i0 + L % 64)) SG (i0 + L % 64)) (C i (p0 + L / 128) (L % 128)) k'))
    (fun L => Ideal.div 1 (∑ k' : Fin n, weight n (score (K g) (S g) (Q (h0 + L / 64) (i0 + L % 64)) SG (i0 + L % 64)) (C i (p0 + L / 128) (L % 128)) k'))
    (fun k l => by rw [slabC_apply, w0]) (fun k l => by rw [slabC_apply, w1]) (fun k l => by rw [slabC_apply, w2])
    (fun l => by rw [slabR_apply]; simp only [w0]) (fun l => by rw [slabR_apply]; simp only [w1]) (fun l => by rw [slabR_apply]; simp only [w2])]
  rw [att]
  congr 1
  refine Finset.sum_congr rfl fun k' _ => ?_
  rw [hv]
  simp only [Fin.val_zero, Nat.add_zero, Nat.zero_add]

/-- An element of the attention output at a row and a column of the wide result. -/
def outAt (SG : ℕ → BitVec 32) (Q K : ℕ → ℕ → ℕ → EReal) (S : ℕ → ℕ → EReal) (C V : ℕ → ℕ → ℕ → EReal) (r col : ℕ) : EReal :=
  att (64 * (r / 64 + 1)) (score (K (col / 256 / 6)) (S (col / 256 / 6)) (Q (col / 256) r) SG r)
    (C (r / 64) (col / 256 / 2) (col / 256 % 2 * 64 + r % 64)) (V (col / 256 / 6) (col % 256))

/-- One head's 64 rows of a tile, as the block of the output that they are stored to. -/
theorem tile_piece (n i0 h0 g p0 i hh o1 o2 : ℕ) (T : FVec Ideal ⟨2, ![384, 256]⟩ .bf16)
    (SG : ℕ → BitVec 32) (Q K : ℕ → ℕ → ℕ → EReal) (S : ℕ → ℕ → EReal) (C V : ℕ → ℕ → ℕ → EReal)
    (hT : ∀ (l : Fin 384) (d : Fin 256), T (ix2 l d) = att n (score (K g) (S g) (Q (h0 + l.val / 64) (i0 + l.val % 64)) SG (i0 + l.val % 64))
          (C i (p0 + l.val / 128) (l.val % 128)) (V g d.val))
    (h : (⟨2, ![384, 256]⟩ : Shape).Slices ![hh, 0] ⟨2, ![64, 256]⟩) (h' : (⟨2, ![64, 256]⟩ : Shape).ShapeCasts ⟨3, ![1, 64, 256]⟩)
    (hn : n = 64 * (i + 1) ∧ i0 = 64 * i ∧ h0 = 6 * g ∧ p0 = 3 * g ∧ hh % 64 = 0 ∧ hh < 384 ∧ o1 = i0 ∧ o2 = 256 * (h0 + hh / 64)) (x : (⟨3, ![1, 64, 256]⟩ : Shape).Idx) :
    shapeCast ⟨3, ![1, 64, 256]⟩ (extractStridedSlice ⟨2, ![64, 256]⟩ ![hh, 0] T h) h' x
      = outAt SG Q K S C V (o1 + (x 1).val) (o2 + (x 2).val) := by
  obtain ⟨hn, hi, hh0, hp, hm, hlt, ho1, ho2⟩ := hn
  have hx1 : (x 1).val < 64 := (x 1).isLt
  have hx2 : (x 2).val < 256 := (x 2).isLt
  have e : shapeCast ⟨3, ![1, 64, 256]⟩ (extractStridedSlice ⟨2, ![64, 256]⟩ ![hh, 0] T h) h' x
      = T (ix2 ⟨hh + (x 1).val, by omega⟩ ⟨(x 2).val, hx2⟩) := by
    have e0 : ∀ X : FVec Ideal ⟨2, ![64, 256]⟩ .bf16, shapeCast ⟨3, ![1, 64, 256]⟩ X h' x = X (ix2 ⟨(x 1).val, hx1⟩ ⟨(x 2).val, hx2⟩) := by
      intro X; pointwise
    rw [e0]
    refine congrArg T (funext fun a => Fin.ext ?_)
    match a with
    | ⟨0, _⟩ => rfl
    | ⟨1, _⟩ => exact Nat.zero_add _
  rw [e, hT, outAt]
  have q1 : (o1 + (x 1).val) / 64 = i := by omega
  have q2 : (o2 + (x 2).val) / 256 = h0 + hh / 64 := by omega
  have q3 : (h0 + hh / 64) / 6 = g := by omega
  have q4 : (o2 + (x 2).val) % 256 = (x 2).val := by omega
  have q5 : (hh + (x 1).val) / 64 = hh / 64 := by omega
  have q6 : i0 + (hh + (x 1).val) % 64 = o1 + (x 1).val := by omega
  have q7 : p0 + (hh + (x 1).val) / 128 = (h0 + hh / 64) / 2 := by omega
  have q8 : (hh + (x 1).val) % 128 = (h0 + hh / 64) % 2 * 64 + (o1 + (x 1).val) % 64 := by omega
  simp only [q1, q2, q3, q4, q5, q6, q7, q8, hn]

/-- A tile's stored block, from what its operands are: the two theorems above together. -/
theorem out_piece {n o1 o2 hh : ℕ} (i0 h0 g p0 i : ℕ) {q0 : BitVec 32} {sg : IVec ⟨2, ![n, 128]⟩ 32} {sq : IVec ⟨3, ![1, 1, 64]⟩ 32}
    {q : FVec Ideal ⟨4, ![1, 6, 64, 256]⟩ .fp8e4m3} {k : FVec Ideal ⟨4, ![1, 1, n, 256]⟩ .fp8e4m3}
    {kcol : FVec Ideal ⟨3, ![1, n, 128]⟩ .f32} {c0 c1 c2 : FVec Ideal ⟨3, ![1, 1, 128]⟩ .f32} {v : FVec Ideal ⟨3, ![1, 256, n]⟩ .bf16}
    {a1 a2 a3 a4 a5 a6 b1 b2 b3 d1 d2 d2' d2'' d3 d4 d5 d6 e2 e3 e4 e5 e6}
    {h : (⟨2, ![384, 256]⟩ : Shape).Slices ![hh, 0] ⟨2, ![64, 256]⟩} {h' : (⟨2, ![64, 256]⟩ : Shape).ShapeCasts ⟨3, ![1, 64, 256]⟩}
    {inb : ∀ a, (![0, o1, o2] : Fin 3 → ℕ) a + (⟨3, ![1, 64, 256]⟩ : Shape).size a ≤ (⟨3, ![1, 640, 3072]⟩ : Shape).size a}
    {SG : ℕ → BitVec 32} {Q K : ℕ → ℕ → ℕ → EReal} {S : ℕ → ℕ → EReal} {C : ℕ → ℕ → ℕ → EReal} {V : ℕ → ℕ → ℕ → EReal}
    (hsg : ∀ k l, sg (ix2 k l) = SG (0 + k.val)) (hsq : ∀ a b l, sq (ix3 a b l) = SG (i0 + l.val))
    (hq : ∀ z a b d, q (ix4 z a b d) = Q (h0 + a.val) (i0 + b.val) (0 + d.val))
    (hk : ∀ z a b d, k (ix4 z a b d) = K (g + a.val) (0 + b.val) (0 + d.val))
    (hs : ∀ a b l, kcol (ix3 a b l) = S (g + a.val) (0 + b.val))
    (hc0 : ∀ a b l, c0 (ix3 a b l) = C (i + a.val) (p0 + 0 + b.val) (0 + l.val))
    (hc1 : ∀ a b l, c1 (ix3 a b l) = C (i + a.val) (p0 + 1 + b.val) (0 + l.val))
    (hc2 : ∀ a b l, c2 (ix3 a b l) = C (i + a.val) (p0 + 2 + b.val) (0 + l.val))
    (hv : ∀ a b l, v (ix3 a b l) = V (g + a.val) (0 + b.val) (0 + l.val))
    (hn : n ≤ 640 ∧ n = 64 * (i + 1) ∧ i0 = 64 * i ∧ h0 = 6 * g ∧ p0 = 3 * g ∧ hh % 64 = 0 ∧ hh < 384 ∧ o1 = i0 ∧ o2 = 256 * (h0 + hh / 64))
    (hq0 : q0 = BitVec.ofNat 32 i0) (x : (Rect.unit (s := ⟨3, ![1, 640, 3072]⟩) ![0, o1, o2] (⟨3, ![1, 64, 256]⟩ : Shape).size inb).shape.Idx) :
    (shapeCast ⟨3, ![1, 64, 256]⟩ (extractStridedSlice ⟨2, ![64, 256]⟩ ![hh, 0] (tileOut n v
      (slabC n (slabP n (slabT n ![0, 0] (visible n q0 sg sq a1 a2 a3 a4 a5 a6) (tileRaw n q k b1 b2 b3) kcol d1 d2) c0 d3 d4 d5 d6))
      (slabC n (slabP n (slabT n ![0, 128] (visible n q0 sg sq a1 a2 a3 a4 a5 a6) (tileRaw n q k b1 b2 b3) kcol d1 d2') c1 d3 d4 d5 d6))
      (slabC n (slabP n (slabT n ![0, 256] (visible n q0 sg sq a1 a2 a3 a4 a5 a6) (tileRaw n q k b1 b2 b3) kcol d1 d2'') c2 d3 d4 d5 d6))
      (slabR n (slabP n (slabT n ![0, 0] (visible n q0 sg sq a1 a2 a3 a4 a5 a6) (tileRaw n q k b1 b2 b3) kcol d1 d2) c0 d3 d4 d5 d6) d4 d5)
      (slabR n (slabP n (slabT n ![0, 128] (visible n q0 sg sq a1 a2 a3 a4 a5 a6) (tileRaw n q k b1 b2 b3) kcol d1 d2') c1 d3 d4 d5 d6) d4 d5)
      (slabR n (slabP n (slabT n ![0, 256] (visible n q0 sg sq a1 a2 a3 a4 a5 a6) (tileRaw n q k b1 b2 b3) kcol d1 d2'') c2 d3 d4 d5 d6) d4 d5)
      e2 e3 e4 e5 e6) h) h' : (⟨3, ![1, 64, 256]⟩ : Shape).Idx → EReal) x
      = (fun y : (⟨3, ![1, 640, 3072]⟩ : Shape).Idx => outAt SG Q K S C V (y 1).val (y 2).val)
          ((Rect.unit (s := ⟨3, ![1, 640, 3072]⟩) ![0, o1, o2] (⟨3, ![1, 64, 256]⟩ : Shape).size inb).emb x) := by
  refine (tile_piece n i0 h0 g p0 i hh o1 o2 _ SG Q K S C V ?_ h h' hn.2 x).trans ?_
  · exact tile_apply n i0 h0 g p0 q0 sg sq q k kcol c0 c1 c2 v a1 a2 a3 a4 a5 a6 b1 b2 b3 d1 d2 d2' d2'' d3 d4 d5 d6 e2 e3 e4 e5 e6
      SG Q K S C V hn.1 (by omega) hq0 hsg hsq hq hk hs i hc0 hc1 hc2 hv
  · have e1 := ValueKit.rect_emb_unit_val (s := ⟨3, ![1, 640, 3072]⟩) ![0, o1, o2] (⟨3, ![1, 64, 256]⟩ : Shape).size inb x 1
    have e2 := ValueKit.rect_emb_unit_val (s := ⟨3, ![1, 640, 3072]⟩) ![0, o1, o2] (⟨3, ![1, 64, 256]⟩ : Shape).size inb x 2
    show _ = outAt SG Q K S C V _ _
    rw [e1, e2]
    rfl

/-- The same with the tile's place read off the block's. -/
theorem out_piece_at {n o1 o2 hh : ℕ} {q0 : BitVec 32} {sg : IVec ⟨2, ![n, 128]⟩ 32} {sq : IVec ⟨3, ![1, 1, 64]⟩ 32}
    {q : FVec Ideal ⟨4, ![1, 6, 64, 256]⟩ .fp8e4m3} {k : FVec Ideal ⟨4, ![1, 1, n, 256]⟩ .fp8e4m3}
    {kcol : FVec Ideal ⟨3, ![1, n, 128]⟩ .f32} {c0 c1 c2 : FVec Ideal ⟨3, ![1, 1, 128]⟩ .f32} {v : FVec Ideal ⟨3, ![1, 256, n]⟩ .bf16}
    {a1 a2 a3 a4 a5 a6 b1 b2 b3 d1 d2 d2' d2'' d3 d4 d5 d6 e2 e3 e4 e5 e6}
    {h : (⟨2, ![384, 256]⟩ : Shape).Slices ![hh, 0] ⟨2, ![64, 256]⟩} {h' : (⟨2, ![64, 256]⟩ : Shape).ShapeCasts ⟨3, ![1, 64, 256]⟩}
    {inb : ∀ a, (![0, o1, o2] : Fin 3 → ℕ) a + (⟨3, ![1, 64, 256]⟩ : Shape).size a ≤ (⟨3, ![1, 640, 3072]⟩ : Shape).size a}
    {SG : ℕ → BitVec 32} {Q K : ℕ → ℕ → ℕ → EReal} {S : ℕ → ℕ → EReal} {C : ℕ → ℕ → ℕ → EReal} {V : ℕ → ℕ → ℕ → EReal}
    (hsg : ∀ k l, sg (ix2 k l) = SG (0 + k.val)) (hsq : ∀ a b l, sq (ix3 a b l) = SG (o1 + l.val))
    (hq : ∀ z a b d, q (ix4 z a b d) = Q (6 * (o2 / 1536) + a.val) (o1 + b.val) (0 + d.val))
    (hk : ∀ z a b d, k (ix4 z a b d) = K (o2 / 1536 + a.val) (0 + b.val) (0 + d.val))
    (hs : ∀ a b l, kcol (ix3 a b l) = S (o2 / 1536 + a.val) (0 + b.val))
    (hc0 : ∀ a b l, c0 (ix3 a b l) = C (o1 / 64 + a.val) (3 * (o2 / 1536) + 0 + b.val) (0 + l.val))
    (hc1 : ∀ a b l, c1 (ix3 a b l) = C (o1 / 64 + a.val) (3 * (o2 / 1536) + 1 + b.val) (0 + l.val))
    (hc2 : ∀ a b l, c2 (ix3 a b l) = C (o1 / 64 + a.val) (3 * (o2 / 1536) + 2 + b.val) (0 + l.val))
    (hv : ∀ a b l, v (ix3 a b l) = V (o2 / 1536 + a.val) (0 + b.val) (0 + l.val))
    (hn : n ≤ 640 ∧ n = 64 * (o1 / 64 + 1) ∧ o1 = 64 * (o1 / 64) ∧ hh % 64 = 0 ∧ hh < 384 ∧ o2 = 256 * (6 * (o2 / 1536) + hh / 64))
    (hq0 : q0 = BitVec.ofNat 32 o1) (x : (Rect.unit (s := ⟨3, ![1, 640, 3072]⟩) ![0, o1, o2] (⟨3, ![1, 64, 256]⟩ : Shape).size inb).shape.Idx) :
    (shapeCast ⟨3, ![1, 64, 256]⟩ (extractStridedSlice ⟨2, ![64, 256]⟩ ![hh, 0] (tileOut n v
      (slabC n (slabP n (slabT n ![0, 0] (visible n q0 sg sq a1 a2 a3 a4 a5 a6) (tileRaw n q k b1 b2 b3) kcol d1 d2) c0 d3 d4 d5 d6))
      (slabC n (slabP n (slabT n ![0, 128] (visible n q0 sg sq a1 a2 a3 a4 a5 a6) (tileRaw n q k b1 b2 b3) kcol d1 d2') c1 d3 d4 d5 d6))
      (slabC n (slabP n (slabT n ![0, 256] (visible n q0 sg sq a1 a2 a3 a4 a5 a6) (tileRaw n q k b1 b2 b3) kcol d1 d2'') c2 d3 d4 d5 d6))
      (slabR n (slabP n (slabT n ![0, 0] (visible n q0 sg sq a1 a2 a3 a4 a5 a6) (tileRaw n q k b1 b2 b3) kcol d1 d2) c0 d3 d4 d5 d6) d4 d5)
      (slabR n (slabP n (slabT n ![0, 128] (visible n q0 sg sq a1 a2 a3 a4 a5 a6) (tileRaw n q k b1 b2 b3) kcol d1 d2') c1 d3 d4 d5 d6) d4 d5)
      (slabR n (slabP n (slabT n ![0, 256] (visible n q0 sg sq a1 a2 a3 a4 a5 a6) (tileRaw n q k b1 b2 b3) kcol d1 d2'') c2 d3 d4 d5 d6) d4 d5)
      e2 e3 e4 e5 e6) h) h' : (⟨3, ![1, 64, 256]⟩ : Shape).Idx → EReal) x
      = (fun y : (⟨3, ![1, 640, 3072]⟩ : Shape).Idx => outAt SG Q K S C V (y 1).val (y 2).val)
          ((Rect.unit (s := ⟨3, ![1, 640, 3072]⟩) ![0, o1, o2] (⟨3, ![1, 64, 256]⟩ : Shape).size inb).emb x) :=
  out_piece o1 (6 * (o2 / 1536)) (o2 / 1536) (3 * (o2 / 1536)) (o1 / 64) hsg hsq hq hk hs hc0 hc1 hc2 hv
    ⟨hn.1, hn.2.1, hn.2.2.1, rfl, rfl, hn.2.2.2.1, hn.2.2.2.2.1, rfl, hn.2.2.2.2.2⟩ hq0 x

end Cert.Fp8
-- ==== Proof.OutAtt.lean ====
module

public import proofs.«01_k».proof.Proof.Quants
public import proofs.«01_k».proof.Proof.Att
public import proofs.«01_k».proof.Proof.Gen.KernelIdeal.Frame

@[expose] public section

set_option maxRecDepth 16384

noncomputable section

namespace Cert.Fp8

open Idealize.ShloMosaic Idealize.ShloMosaic.TcCoe Cert.KernelIdeal Cert.KernelIdeal.Gen Cert.KernelIdeal.Gen.kernelRun0_A

attribute [local irreducible] dynamicRotate select shapeCast extractStridedSlice transpose broadcastTo concatenate multiReduction multiReductionI
  iota cmpi cmpf andi shli subi extui trunci bitcastToFloat absf mulf maximumf minimumf extf truncf sitofp fptosi exp2 divf addf subf remsi xori addi

/-- The attention's output from the three matrices and the segments. -/
def attOut (SG : ℕ → BitVec 32) (X K V : ℕ → ℕ → EReal) (r col : ℕ) : EReal :=
  outAt SG (cod X) (cod K) (scl K) (cof X) (fun g d r => cod V g r d * scl V g r) r col

set_option maxHeartbeats 4000000 in
/-- The stored attention output. -/
theorem att_pieces (c : Dev nD) (i : grid0.Coords) (arg1 : Memref sig .tc .vmem S1x640x3072 .bf16) (harg1 : arg1.IsWhole) (arg2 : Memref sig .tc .vmem S1x640x512 .bf16) (harg2 : arg2.IsWhole) (arg3 : Memref sig .tc .vmem S1x640x512 .bf16) (harg3 : arg3.IsWhole) (arg4 : Memref sig .tc .vmem S1x1x640 .i32) (harg4 : arg4.IsWhole) (arg5 : Memref sig .tc .vmem S1x640x3072 .bf16) (harg5 : arg5.IsWhole) (arg6 : Memref sig .tc .vmem S1x12x640x256 .fp8e4m3) (harg6 : arg6.IsWhole) (arg7 : Memref sig .tc .vmem S1x12x640 .f32) (harg7 : arg7.IsWhole) (arg8 : Memref sig .tc .vmem S1x2x640x256 .fp8e4m3) (harg8 : arg8.IsWhole) (arg9 : Memref sig .tc .vmem S1x2x640 .f32) (harg9 : arg9.IsWhole) (arg10 : Memref sig .tc .vmem S1x2x640x256 .fp8e4m3) (harg10 : arg10.IsWhole) (arg11 : Memref sig .tc .vmem S1x2x640 .f32) (harg11 : arg11.IsWhole) (arg12 : Memref sig .tc .vmem S2x256x640 .bf16) (harg12 : arg12.IsWhole) (arg13 : Memref sig .tc .vmem S2x640x128 .f32) (harg13 : arg13.IsWhole) (arg14 : Memref sig .tc .vmem S640x128 .i32) (harg14 : arg14.IsWhole) (arg15 : Memref sig .tc .vmem S10x8x128 .f32) (harg15 : arg15.IsWhole) (x0 : Vec Ideal S1x640x3072 .bf16) (x1 : Vec Ideal S1x640x512 .bf16) (x2 : Vec Ideal S1x640x512 .bf16) (x3 : Vec Ideal S1x1x640 .i32) {SG : ℕ → BitVec 32} {X K V : ℕ → ℕ → EReal} (hx : ∀ y, x0 y = X (y 1).val (y 2).val) (hk : ∀ y, x1 y = K (y 1).val (y 2).val) (hv : ∀ y, x2 y = V (y 1).val (y 2).val) (hsg : ∀ y, x3 y = SG (y 2).val) :
    View.PiecesOf (fun y : S1x640x3072.Idx => attOut SG X K V (y 1).val (y 2).val) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3).1 := by
  repeat refine ⟨out_piece_at (inb := by decide) (load2 (fun r _ => SG r) (segcol_pieces c arg4 harg4 x3 hsg) (segcol_cover c arg4 harg4 x3)) (fun a b l => load_seg hsg (ix3 a b l))
    (load4 (cod X) (qc_pieces c arg1 harg1 x0 hx) (qc_cover c arg1 harg1 x0)) (load4 (cod K) (kc_pieces c arg2 harg2 x1 hk) (kc_cover c arg2 harg2 x1))
    (load3 (fun g r _ => scl K g r) (kcol_pieces c arg2 harg2 x1 hk) (kcol_cover c arg2 harg2 x1))
    (load3 (cof X) (c_pieces c arg1 harg1 x0 hx) (c_cover c arg1 harg1 x0)) (load3 (cof X) (c_pieces c arg1 harg1 x0 hx) (c_cover c arg1 harg1 x0))
    (load3 (cof X) (c_pieces c arg1 harg1 x0 hx) (c_cover c arg1 harg1 x0))
    (load3 (fun g d r => cod V g r d * scl V g r) (vt_pieces c arg3 harg3 x2 hv) (vt_cover c arg3 harg3 x2)) (by decide) rfl, ?_⟩
  trivial

end Cert.Fp8
-- ==== Proof.Outs.lean ====
module

public import proofs.«01_k».proof.Proof.Quants
public import proofs.«01_k».proof.Proof.Gen.KernelIdeal.Frame

@[expose] public section

set_option maxRecDepth 16384

noncomputable section

namespace Cert.Fp8

open Idealize.ShloMosaic Idealize.ShloMosaic.TcCoe Cert.KernelIdeal Cert.KernelIdeal.Gen Cert.KernelIdeal.Gen.kernelRun0_A

attribute [local irreducible] dynamicRotate select shapeCast extractStridedSlice transpose broadcastTo concatenate multiReduction multiReductionI
  iota cmpi cmpf andi shli subi extui trunci bitcastToFloat absf mulf maximumf minimumf extf truncf sitofp fptosi

/-- The stored key scales. -/
theorem ks_pieces (c : Dev nD) (i : grid0.Coords) (arg1 : Memref sig .tc .vmem S1x640x3072 .bf16) (harg1 : arg1.IsWhole) (arg2 : Memref sig .tc .vmem S1x640x512 .bf16) (harg2 : arg2.IsWhole) (arg3 : Memref sig .tc .vmem S1x640x512 .bf16) (harg3 : arg3.IsWhole) (arg4 : Memref sig .tc .vmem S1x1x640 .i32) (harg4 : arg4.IsWhole) (arg5 : Memref sig .tc .vmem S1x640x3072 .bf16) (harg5 : arg5.IsWhole) (arg6 : Memref sig .tc .vmem S1x12x640x256 .fp8e4m3) (harg6 : arg6.IsWhole) (arg7 : Memref sig .tc .vmem S1x12x640 .f32) (harg7 : arg7.IsWhole) (arg8 : Memref sig .tc .vmem S1x2x640x256 .fp8e4m3) (harg8 : arg8.IsWhole) (arg9 : Memref sig .tc .vmem S1x2x640 .f32) (harg9 : arg9.IsWhole) (arg10 : Memref sig .tc .vmem S1x2x640x256 .fp8e4m3) (harg10 : arg10.IsWhole) (arg11 : Memref sig .tc .vmem S1x2x640 .f32) (harg11 : arg11.IsWhole) (arg12 : Memref sig .tc .vmem S2x256x640 .bf16) (harg12 : arg12.IsWhole) (arg13 : Memref sig .tc .vmem S2x640x128 .f32) (harg13 : arg13.IsWhole) (arg14 : Memref sig .tc .vmem S640x128 .i32) (harg14 : arg14.IsWhole) (arg15 : Memref sig .tc .vmem S10x8x128 .f32) (harg15 : arg15.IsWhole) (x0 : Vec Ideal S1x640x3072 .bf16) (x1 : Vec Ideal S1x640x512 .bf16) (x2 : Vec Ideal S1x640x512 .bf16) (x3 : Vec Ideal S1x1x640 .i32) {K V : ℕ → ℕ → EReal} (hk : ∀ y, x1 y = K (y 1).val (y 2).val) (hv : ∀ y, x2 y = V (y 1).val (y 2).val) :
    View.PiecesOf (fun y : S1x2x640.Idx => scl K (y 1).val (y 2).val) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3).2.2.2.2.1 := by
  repeat refine ⟨two_piece (g1 := by decide) (inb := by decide) (load_in hk) (load_in hk) (load_in hv) (load_in hv) (by decide) (Or.inl ⟨rfl, rfl⟩), ?_⟩
  trivial

/-- The stored value scales. -/
theorem vs_pieces (c : Dev nD) (i : grid0.Coords) (arg1 : Memref sig .tc .vmem S1x640x3072 .bf16) (harg1 : arg1.IsWhole) (arg2 : Memref sig .tc .vmem S1x640x512 .bf16) (harg2 : arg2.IsWhole) (arg3 : Memref sig .tc .vmem S1x640x512 .bf16) (harg3 : arg3.IsWhole) (arg4 : Memref sig .tc .vmem S1x1x640 .i32) (harg4 : arg4.IsWhole) (arg5 : Memref sig .tc .vmem S1x640x3072 .bf16) (harg5 : arg5.IsWhole) (arg6 : Memref sig .tc .vmem S1x12x640x256 .fp8e4m3) (harg6 : arg6.IsWhole) (arg7 : Memref sig .tc .vmem S1x12x640 .f32) (harg7 : arg7.IsWhole) (arg8 : Memref sig .tc .vmem S1x2x640x256 .fp8e4m3) (harg8 : arg8.IsWhole) (arg9 : Memref sig .tc .vmem S1x2x640 .f32) (harg9 : arg9.IsWhole) (arg10 : Memref sig .tc .vmem S1x2x640x256 .fp8e4m3) (harg10 : arg10.IsWhole) (arg11 : Memref sig .tc .vmem S1x2x640 .f32) (harg11 : arg11.IsWhole) (arg12 : Memref sig .tc .vmem S2x256x640 .bf16) (harg12 : arg12.IsWhole) (arg13 : Memref sig .tc .vmem S2x640x128 .f32) (harg13 : arg13.IsWhole) (arg14 : Memref sig .tc .vmem S640x128 .i32) (harg14 : arg14.IsWhole) (arg15 : Memref sig .tc .vmem S10x8x128 .f32) (harg15 : arg15.IsWhole) (x0 : Vec Ideal S1x640x3072 .bf16) (x1 : Vec Ideal S1x640x512 .bf16) (x2 : Vec Ideal S1x640x512 .bf16) (x3 : Vec Ideal S1x1x640 .i32) {K V : ℕ → ℕ → EReal} (hk : ∀ y, x1 y = K (y 1).val (y 2).val) (hv : ∀ y, x2 y = V (y 1).val (y 2).val) :
    View.PiecesOf (fun y : S1x2x640.Idx => scl V (y 1).val (y 2).val) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3).2.2.2.2.2.2.1 := by
  repeat refine ⟨two_piece (g1 := by decide) (inb := by decide) (load_in hk) (load_in hk) (load_in hv) (load_in hv) (by decide) (Or.inr ⟨rfl, rfl⟩), ?_⟩
  trivial

/-- The stored query scales. -/
theorem qs_pieces (c : Dev nD) (i : grid0.Coords) (arg1 : Memref sig .tc .vmem S1x640x3072 .bf16) (harg1 : arg1.IsWhole) (arg2 : Memref sig .tc .vmem S1x640x512 .bf16) (harg2 : arg2.IsWhole) (arg3 : Memref sig .tc .vmem S1x640x512 .bf16) (harg3 : arg3.IsWhole) (arg4 : Memref sig .tc .vmem S1x1x640 .i32) (harg4 : arg4.IsWhole) (arg5 : Memref sig .tc .vmem S1x640x3072 .bf16) (harg5 : arg5.IsWhole) (arg6 : Memref sig .tc .vmem S1x12x640x256 .fp8e4m3) (harg6 : arg6.IsWhole) (arg7 : Memref sig .tc .vmem S1x12x640 .f32) (harg7 : arg7.IsWhole) (arg8 : Memref sig .tc .vmem S1x2x640x256 .fp8e4m3) (harg8 : arg8.IsWhole) (arg9 : Memref sig .tc .vmem S1x2x640 .f32) (harg9 : arg9.IsWhole) (arg10 : Memref sig .tc .vmem S1x2x640x256 .fp8e4m3) (harg10 : arg10.IsWhole) (arg11 : Memref sig .tc .vmem S1x2x640 .f32) (harg11 : arg11.IsWhole) (arg12 : Memref sig .tc .vmem S2x256x640 .bf16) (harg12 : arg12.IsWhole) (arg13 : Memref sig .tc .vmem S2x640x128 .f32) (harg13 : arg13.IsWhole) (arg14 : Memref sig .tc .vmem S640x128 .i32) (harg14 : arg14.IsWhole) (arg15 : Memref sig .tc .vmem S10x8x128 .f32) (harg15 : arg15.IsWhole) (x0 : Vec Ideal S1x640x3072 .bf16) (x1 : Vec Ideal S1x640x512 .bf16) (x2 : Vec Ideal S1x640x512 .bf16) (x3 : Vec Ideal S1x1x640 .i32) {T : ℕ → ℕ → EReal} (hx : ∀ y, x0 y = T (y 1).val (y 2).val) :
    View.PiecesOf (fun y : S1x12x640.Idx => scl T (y 1).val (y 2).val) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3).2.2.1 := by
  repeat refine ⟨odd_piece (g1 := by decide) (inb := by decide) (fun p l => lanes (load_in hx) (load_in hx) (load_in hx) (load_in hx) (load_in hx) (load_in hx) (load_in hx) (load_in hx) (load_in hx) (load_in hx) (load_in hx) (load_in hx) (fun _ => Ideal.ofBits_zero_f32) rfl p l) (fun p l => lanes (load_in hx) (load_in hx) (load_in hx) (load_in hx) (load_in hx) (load_in hx) (load_in hx) (load_in hx) (load_in hx) (load_in hx) (load_in hx) (load_in hx) (fun _ => Ideal.ofBits_zero_f32) rfl p l) (by decide), even_piece (g1 := by decide) (inb := by decide) (fun p l => lanes (load_in hx) (load_in hx) (load_in hx) (load_in hx) (load_in hx) (load_in hx) (load_in hx) (load_in hx) (load_in hx) (load_in hx) (load_in hx) (load_in hx) (fun _ => Ideal.ofBits_zero_f32) rfl p l) (fun p l => lanes (load_in hx) (load_in hx) (load_in hx) (load_in hx) (load_in hx) (load_in hx) (load_in hx) (load_in hx) (load_in hx) (load_in hx) (load_in hx) (load_in hx) (fun _ => Ideal.ofBits_zero_f32) rfl p l) (by decide), ?_⟩
  trivial

/-- The stored value codes. -/
theorem vc_pieces (c : Dev nD) (i : grid0.Coords) (arg1 : Memref sig .tc .vmem S1x640x3072 .bf16) (harg1 : arg1.IsWhole) (arg2 : Memref sig .tc .vmem S1x640x512 .bf16) (harg2 : arg2.IsWhole) (arg3 : Memref sig .tc .vmem S1x640x512 .bf16) (harg3 : arg3.IsWhole) (arg4 : Memref sig .tc .vmem S1x1x640 .i32) (harg4 : arg4.IsWhole) (arg5 : Memref sig .tc .vmem S1x640x3072 .bf16) (harg5 : arg5.IsWhole) (arg6 : Memref sig .tc .vmem S1x12x640x256 .fp8e4m3) (harg6 : arg6.IsWhole) (arg7 : Memref sig .tc .vmem S1x12x640 .f32) (harg7 : arg7.IsWhole) (arg8 : Memref sig .tc .vmem S1x2x640x256 .fp8e4m3) (harg8 : arg8.IsWhole) (arg9 : Memref sig .tc .vmem S1x2x640 .f32) (harg9 : arg9.IsWhole) (arg10 : Memref sig .tc .vmem S1x2x640x256 .fp8e4m3) (harg10 : arg10.IsWhole) (arg11 : Memref sig .tc .vmem S1x2x640 .f32) (harg11 : arg11.IsWhole) (arg12 : Memref sig .tc .vmem S2x256x640 .bf16) (harg12 : arg12.IsWhole) (arg13 : Memref sig .tc .vmem S2x640x128 .f32) (harg13 : arg13.IsWhole) (arg14 : Memref sig .tc .vmem S640x128 .i32) (harg14 : arg14.IsWhole) (arg15 : Memref sig .tc .vmem S10x8x128 .f32) (harg15 : arg15.IsWhole) (x0 : Vec Ideal S1x640x3072 .bf16) (x1 : Vec Ideal S1x640x512 .bf16) (x2 : Vec Ideal S1x640x512 .bf16) (x3 : Vec Ideal S1x1x640 .i32) {K V : ℕ → ℕ → EReal} (hk : ∀ y, x1 y = K (y 1).val (y 2).val) (hv : ∀ y, x2 y = V (y 1).val (y 2).val) :
    View.PiecesOf (fun y : S1x2x640x256.Idx => cod V (y 1).val (y 2).val (y 3).val) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3).2.2.2.2.2.1 := by
  repeat refine ⟨codes_piece (inb := by decide) (load_in hv) rfl, ?_⟩
  trivial

end Cert.Fp8
-- ==== Proof.Arr.lean ====
module

public import proofs.«01_k».proof.Proof.OutAtt
public import proofs.«01_k».proof.Proof.Outs
public import Idealize.ShloMosaic.Lib.Pipeline.ValueKit

@[expose] public section

set_option maxRecDepth 16384

noncomputable section

namespace Cert.Fp8

open Idealize.ShloMosaic Idealize.ShloMosaic.TcCoe Cert.KernelIdeal Cert.KernelIdeal.Gen

variable (m : (ℓ : Loc nD τ sig) → Buf (Elt Ideal) ℓ) (c : Dev nD)

/-- A batch of rows, read at three numbers; zero outside. -/
def tab {n : ℕ} (a : (⟨3, ![3, 640, n]⟩ : Shape).Idx → EReal) (b r k : ℕ) : EReal :=
  if h : b < 3 ∧ r < 640 ∧ k < n then a (ValueIdx.ix3 ⟨b, h.1⟩ ⟨r, h.2.1⟩ ⟨k, h.2.2⟩) else 0

/-- The segment numbers, read at two numbers; zero outside. -/
def segs (a : (⟨2, ![3, 640]⟩ : Shape).Idx → BitVec 32) (b r : ℕ) : BitVec 32 :=
  if h : b < 3 ∧ r < 640 then a (ValueIdx.ix2 ⟨b, h.1⟩ ⟨r, h.2⟩) else 0

/-- At every grid point each window is at its block of the batch. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0] ∧ win0_6.index t = ![t.val, 0, 0]
    ∧ win0_7.index t = ![t.val, 0, 0, 0] ∧ win0_8.index t = ![t.val, 0, 0] ∧ win0_9.index t = ![t.val, 0, 0, 0] ∧ win0_10.index t = ![t.val, 0, 0] :=
  (by decide +kernel : ∀ t : Fin grid0.N, _)

/-- The grid has three points, one per batch. -/
theorem three : cfg0.N = 3 := by decide +kernel

/-- The queries. -/
abbrev Qm : ℕ → ℕ → ℕ → EReal := tab (n := 3072) (m ((c.tc : Thread nD τ).loc main_arg0))
/-- The keys. -/
abbrev Km : ℕ → ℕ → ℕ → EReal := tab (n := 512) (m ((c.tc : Thread nD τ).loc main_arg1))
/-- The values. -/
abbrev Vm : ℕ → ℕ → ℕ → EReal := tab (n := 512) (m ((c.tc : Thread nD τ).loc main_arg2))
/-- The segments. -/
abbrev Sm : ℕ → ℕ → BitVec 32 := segs (m ((c.tc : Thread nD τ).loc main_arg3))

/-- The query block of a grid point is that batch of the query table. -/
theorem blk0 (t : Fin cfg0.N) (y : S1x640x3072.Idx) : iblk m c 0 t y = Qm m c t.val (y 1).val (y 2).val := by
  have h3 := three
  have ht := t.isLt
  rw [Qm, tab, dif_pos ⟨by omega, (y 1).isLt, (y 2).isLt⟩]
  blk_ext [iblk, V, idx t]

/-- The key block of a grid point is that batch of the key table. -/
theorem blk1 (t : Fin cfg0.N) (y : S1x640x512.Idx) : iblk m c 1 t y = Km m c t.val (y 1).val (y 2).val := by
  have h3 := three
  have ht := t.isLt
  rw [Km, tab, dif_pos ⟨by omega, (y 1).isLt, (y 2).isLt⟩]
  blk_ext [iblk, V, idx t]

/-- The value block of a grid point is that batch of the value table. -/
theorem blk2 (t : Fin cfg0.N) (y : S1x640x512.Idx) : iblk m c 2 t y = Vm m c t.val (y 1).val (y 2).val := by
  have h3 := three
  have ht := t.isLt
  rw [Vm, tab, dif_pos ⟨by omega, (y 1).isLt, (y 2).isLt⟩]
  blk_ext [iblk, V, idx t]

/-- The segment block of a grid point is that batch of the segment table. -/
theorem blk3 (t : Fin cfg0.N) (y : S1x1x640.Idx) : iblk m c 3 t y = Sm m c t.val (y 2).val := by
  have h3 := three
  have ht := t.isLt
  rw [Sm, segs, dif_pos ⟨by omega, (y 2).isLt⟩]
  have hv : V m c main_v0 = shapeCast S3x1x640 (m ((c.tc : Thread nD τ).loc main_arg3)) shapeCasts_S3x640_S3x1x640 := by
    dsimp only [V, V0, List.flatten, hostOps0, List.append]
    after_results
    rfl
  show V m c main_v0 (((cfg0.win 3).blk t).view.emb y) = _
  rw [hv]
  pointwise
  blk_ext [idx t]

/-- The attention after the run. -/
theorem arr4 : (dats m 0 c).arrAt 4 (cfgs 0).N = fun y : S3x640x3072.Idx =>
    attOut (Sm m c (y 0).val) (Qm m c (y 0).val) (Km m c (y 0).val) (Vm m c (y 0).val) (y 1).val (y 2).val := by
  refine (dats m 0 c).arrAt_eq_of_covers 4 _ (by decide +kernel) fun t hf y => ?_
  blk_simp
  rw [after0_4]
  dsimp only [outsAt0]
  refine (cov VO0_4 (att_pieces c (grid0.coords t) _ _ _ _ _ _ _ _ _ _ _ _ _ _ _ _ _ _ _ _ _ _ _ _ _ _ _ _ _ _ _ _ _ _ (blk0 m c t) (blk1 m c t) (blk2 m c t) (blk3 m c t)) (fun y => cover0_A_4 c (grid0.coords t) _ _ _ _ _ _ _ _ _ _ _ _ _ _ _ _ _ _ _ _ _ _ _ _ _ _ _ _ _ _ _ _ _ _ y) y).trans ?_
  blk_simp [idx t]

/-- The query codes after the run. -/
theorem arr5 : (dats m 0 c).arrAt 5 (cfgs 0).N = fun y : S3x12x640x256.Idx =>
    cod (Qm m c (y 0).val) (y 1).val (y 2).val (y 3).val := by
  refine (dats m 0 c).arrAt_eq_of_covers 5 _ (by decide +kernel) fun t hf y => ?_
  blk_simp
  rw [after0_5]
  dsimp only [outsAt0]
  refine (cov VO0_5 (qc_pieces c _ _ _ (blk0 m c t)) (qc_cover c _ _ _) y).trans ?_
  blk_simp [idx t]

/-- The query scales after the run. -/
theorem arr6 : (dats m 0 c).arrAt 6 (cfgs 0).N = fun y : S3x12x640.Idx =>
    scl (Qm m c (y 0).val) (y 1).val (y 2).val := by
  refine (dats m 0 c).arrAt_eq_of_covers 6 _ (by decide +kernel) fun t hf y => ?_
  blk_simp
  rw [after0_6]
  dsimp only [outsAt0]
  refine (cov VO0_6 (qs_pieces c (grid0.coords t) _ _ _ _ _ _ _ _ _ _ _ _ _ _ _ _ _ _ _ _ _ _ _ _ _ _ _ _ _ _ _ _ _ _ (blk0 m c t)) (fun y => cover0_A_6 c (grid0.coords t) _ _ _ _ _ _ _ _ _ _ _ _ _ _ _ _ _ _ _ _ _ _ _ _ _ _ _ _ _ _ _ _ _ _ y) y).trans ?_
  blk_simp [idx t]

/-- The key codes after the run. -/
theorem arr7 : (dats m 0 c).arrAt 7 (cfgs 0).N = fun y : S3x2x640x256.Idx =>
    cod (Km m c (y 0).val) (y 1).val (y 2).val (y 3).val := by
  refine (dats m 0 c).arrAt_eq_of_covers 7 _ (by decide +kernel) fun t hf y => ?_
  blk_simp
  rw [after0_7]
  dsimp only [outsAt0]
  refine (cov VO0_7 (kc_pieces c _ _ _ (blk1 m c t)) (kc_cover c _ _ _) y).trans ?_
  blk_simp [idx t]

/-- The key scales after the run. -/
theorem arr8 : (dats m 0 c).arrAt 8 (cfgs 0).N = fun y : S3x2x640.Idx =>
    scl (Km m c (y 0).val) (y 1).val (y 2).val := by
  refine (dats m 0 c).arrAt_eq_of_covers 8 _ (by decide +kernel) fun t hf y => ?_
  blk_simp
  rw [after0_8]
  dsimp only [outsAt0]
  refine (cov VO0_8 (ks_pieces c (grid0.coords t) _ _ _ _ _ _ _ _ _ _ _ _ _ _ _ _ _ _ _ _ _ _ _ _ _ _ _ _ _ _ _ _ _ _ (blk1 m c t) (blk2 m c t)) (fun y => cover0_A_8 c (grid0.coords t) _ _ _ _ _ _ _ _ _ _ _ _ _ _ _ _ _ _ _ _ _ _ _ _ _ _ _ _ _ _ _ _ _ _ y) y).trans ?_
  blk_simp [idx t]

/-- The value codes after the run. -/
theorem arr9 : (dats m 0 c).arrAt 9 (cfgs 0).N = fun y : S3x2x640x256.Idx =>
    cod (Vm m c (y 0).val) (y 1).val (y 2).val (y 3).val := by
  refine (dats m 0 c).arrAt_eq_of_covers 9 _ (by decide +kernel) fun t hf y => ?_
  blk_simp
  rw [after0_9]
  dsimp only [outsAt0]
  refine (cov VO0_9 (vc_pieces c (grid0.coords t) _ _ _ _ _ _ _ _ _ _ _ _ _ _ _ _ _ _ _ _ _ _ _ _ _ _ _ _ _ _ _ _ _ _ (blk1 m c t) (blk2 m c t)) (fun y => cover0_A_9 c (grid0.coords t) _ _ _ _ _ _ _ _ _ _ _ _ _ _ _ _ _ _ _ _ _ _ _ _ _ _ _ _ _ _ _ _ _ _ y) y).trans ?_
  blk_simp [idx t]

/-- The value scales after the run. -/
theorem arr10 : (dats m 0 c).arrAt 10 (cfgs 0).N = fun y : S3x2x640.Idx =>
    scl (Vm m c (y 0).val) (y 1).val (y 2).val := by
  refine (dats m 0 c).arrAt_eq_of_covers 10 _ (by decide +kernel) fun t hf y => ?_
  blk_simp
  rw [after0_10]
  dsimp only [outsAt0]
  refine (cov VO0_10 (vs_pieces c (grid0.coords t) _ _ _ _ _ _ _ _ _ _ _ _ _ _ _ _ _ _ _ _ _ _ _ _ _ _ _ _ _ _ _ _ _ _ (blk1 m c t) (blk2 m c t)) (fun y => cover0_A_10 c (grid0.coords t) _ _ _ _ _ _ _ _ _ _ _ _ _ _ _ _ _ _ _ _ _ _ _ _ _ _ _ _ _ _ _ _ _ _ y) y).trans ?_
  blk_simp [idx t]

end Cert.Fp8
end
-- ==== Proof.KernelRun.lean ====
module

public import proofs.«01_k».proof.Proof.Arr

@[expose] public section

set_option maxRecDepth 16384

noncomputable section

namespace Cert.Fp8

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The contents when the region ends, at a window's array. -/
theorem exit_arr (w : Fin cfg0.W) : Pipeline.withArrays (cfgs 0).spec c (V0 m c) (fun w => (dats m 0 c).arrAt w (cfgs 0).N)
    (Proc.tc.devRef (Pipeline.arrRef spec0 w)) = (dats m 0 c).arrAt w (cfgs 0).N :=
  Pipeline.withArrays_arr _ launch0.win.arr_inj c _ _ w

/-- The query codes as the kernel returns them. -/
theorem res2 : Pipeline.afterTail₀ cfgs (dats m) 0 (V0 m) [hostOps1] c main_v2 = fun y : S3x640x12x256.Idx =>
    cod (Qm m c (y 0).val) (y 2).val (y 1).val (y 3).val := by
  unfold Pipeline.afterTail₀
  dsimp only [List.flatten, List.append]
  after_results
  refine (congrArg (fun A => transpose S3x640x12x256 _ A _) ((exit_arr m c 5).trans (arr5 m c))).trans ?_
  funext y
  pointwise

/-- The query scales as the kernel returns them. -/
theorem res3 : Pipeline.afterTail₀ cfgs (dats m) 0 (V0 m) [hostOps1] c main_v3 = fun y : S3x640x12.Idx =>
    scl (Qm m c (y 0).val) (y 2).val (y 1).val := by
  unfold Pipeline.afterTail₀
  dsimp only [List.flatten, List.append]
  after_results
  refine (congrArg (fun A => transpose S3x640x12 _ A _) ((exit_arr m c 6).trans (arr6 m c))).trans ?_
  funext y
  pointwise

/-- The key codes as the kernel returns them. -/
theorem res4 : Pipeline.afterTail₀ cfgs (dats m) 0 (V0 m) [hostOps1] c main_v4 = fun y : S3x640x2x256.Idx =>
    cod (Km m c (y 0).val) (y 2).val (y 1).val (y 3).val := by
  unfold Pipeline.afterTail₀
  dsimp only [List.flatten, List.append]
  after_results
  refine (congrArg (fun A => transpose S3x640x2x256 _ A _) ((exit_arr m c 7).trans (arr7 m c))).trans ?_
  funext y
  pointwise

/-- The key scales as the kernel returns them. -/
theorem res5 : Pipeline.afterTail₀ cfgs (dats m) 0 (V0 m) [hostOps1] c main_v5 = fun y : S3x640x2.Idx =>
    scl (Km m c (y 0).val) (y 2).val (y 1).val := by
  unfold Pipeline.afterTail₀
  dsimp only [List.flatten, List.append]
  after_results
  refine (congrArg (fun A => transpose S3x640x2 _ A _) ((exit_arr m c 8).trans (arr8 m c))).trans ?_
  funext y
  pointwise

/-- The value codes as the kernel returns them. -/
theorem res6 : Pipeline.afterTail₀ cfgs (dats m) 0 (V0 m) [hostOps1] c main_v6 = fun y : S3x640x2x256.Idx =>
    cod (Vm m c (y 0).val) (y 2).val (y 1).val (y 3).val := by
  unfold Pipeline.afterTail₀
  dsimp only [List.flatten, List.append]
  after_results
  refine (congrArg (fun A => transpose S3x640x2x256 _ A _) ((exit_arr m c 9).trans (arr9 m c))).trans ?_
  funext y
  pointwise

/-- The value scales as the kernel returns them. -/
theorem res7 : Pipeline.afterTail₀ cfgs (dats m) 0 (V0 m) [hostOps1] c main_v7 = fun y : S3x640x2.Idx =>
    scl (Vm m c (y 0).val) (y 2).val (y 1).val := by
  unfold Pipeline.afterTail₀
  dsimp only [List.flatten, List.append]
  after_results
  refine (congrArg (fun A => transpose S3x640x2 _ A _) ((exit_arr m c 10).trans (arr10 m c))).trans ?_
  funext y
  pointwise

/-- The run of the kernel with every result named. -/
theorem kernel_run : θ_run defs (onTc (τ := τ) (main (F := Ideal))) ⟨m, fun _ => 0, ρ⟩ fun r => ∀ c : Dev nD,
    r.2.mem ((c.tc : Thread nD τ).loc main_v1_0) = (fun y : S3x640x3072.Idx =>
      attOut (Sm m c (y 0).val) (Qm m c (y 0).val) (Km m c (y 0).val) (Vm m c (y 0).val) (y 1).val (y 2).val)
    ∧ r.2.mem ((c.tc : Thread nD τ).loc main_v2) = (fun y : S3x640x12x256.Idx => cod (Qm m c (y 0).val) (y 2).val (y 1).val (y 3).val)
    ∧ r.2.mem ((c.tc : Thread nD τ).loc main_v3) = (fun y : S3x640x12.Idx => scl (Qm m c (y 0).val) (y 2).val (y 1).val)
    ∧ r.2.mem ((c.tc : Thread nD τ).loc main_v4) = (fun y : S3x640x2x256.Idx => cod (Km m c (y 0).val) (y 2).val (y 1).val (y 3).val)
    ∧ r.2.mem ((c.tc : Thread nD τ).loc main_v5) = (fun y : S3x640x2.Idx => scl (Km m c (y 0).val) (y 2).val (y 1).val)
    ∧ r.2.mem ((c.tc : Thread nD τ).loc main_v6) = (fun y : S3x640x2x256.Idx => cod (Vm m c (y 0).val) (y 2).val (y 1).val (y 3).val)
    ∧ r.2.mem ((c.tc : Thread nD τ).loc main_v7) = (fun y : S3x640x2.Idx => scl (Vm m c (y 0).val) (y 2).val (y 1).val) :=
  (θ_run defs _ _).mono (fun r h c => ⟨((h c).1 4).trans (arr4 m c),
    ((h c).2 main_v2 (Pipeline.mem_restRefs_of main_v2 rfl (by decide))).trans (res2 m c),
    ((h c).2 main_v3 (Pipeline.mem_restRefs_of main_v3 rfl (by decide))).trans (res3 m c),
    ((h c).2 main_v4 (Pipeline.mem_restRefs_of main_v4 rfl (by decide))).trans (res4 m c),
    ((h c).2 main_v5 (Pipeline.mem_restRefs_of main_v5 rfl (by decide))).trans (res5 m c),
    ((h c).2 main_v6 (Pipeline.mem_restRefs_of main_v6 rfl (by decide))).trans (res6 m c),
    ((h c).2 main_v7 (Pipeline.mem_restRefs_of main_v7 rfl (by decide))).trans (res7 m c)⟩) (run_main m ρ)

end Cert.Fp8
end
-- ==== Proof.RefRun.lean ====
module

public import proofs.«01_k».proof.Proof.Gen.ReferenceIdeal.Frame
public import Idealize.ShloMosaic.Lib.Pipeline.ValueKit

@[expose] public section

set_option maxRecDepth 16384

noncomputable section

namespace Cert.Fp8.Ref

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg) (c : Dev nD)

/-- The reference has one grid point and each window is its whole array. -/
theorem idx : ∀ t : Fin cfg0.N, win0_0.index t = ![0, 0, 0] ∧ win0_1.index t = ![0, 0, 0] ∧ win0_2.index t = ![0, 0, 0]
    ∧ win0_3.index t = ![0, 0] ∧ win0_4.index t = ![0, 0, 0] ∧ win0_5.index t = ![0, 0, 0, 0] ∧ win0_6.index t = ![0, 0, 0]
    ∧ win0_7.index t = ![0, 0, 0, 0] ∧ win0_8.index t = ![0, 0, 0] ∧ win0_9.index t = ![0, 0, 0, 0] ∧ win0_10.index t = ![0, 0, 0] :=
  (by decide +kernel : ∀ t : Fin grid0.N, _)

/-- The query block is the whole array. -/
theorem blk0 (t : Fin cfg0.N) : iblk m c 0 t = m ((c.tc : Thread nD τ).loc main_arg0) := by
  funext y
  blk_ext [iblk, V, idx t]

/-- The key block is the whole array. -/
theorem blk1 (t : Fin cfg0.N) : iblk m c 1 t = m ((c.tc : Thread nD τ).loc main_arg1) := by
  funext y
  blk_ext [iblk, V, idx t]

/-- The value block is the whole array. -/
theorem blk2 (t : Fin cfg0.N) : iblk m c 2 t = m ((c.tc : Thread nD τ).loc main_arg2) := by
  funext y
  blk_ext [iblk, V, idx t]

/-- The segment block is the whole array. -/
theorem blk3 (t : Fin cfg0.N) : iblk m c 3 t = m ((c.tc : Thread nD τ).loc main_arg3) := by
  funext y
  blk_ext [iblk, V, idx t]

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl
/-- Four zero offsets. -/
theorem hz4 : (![0, 0, 0, 0] : Fin 4 → Nat) = fun _ => 0 := funext fun a => by fin_cases a <;> rfl

/-- Loading a whole query-shaped buffer. -/
theorem ld0 (a : Vec Ideal S3x640x3072 .bf16) : View.ld a r0_0 = a := View.ld_unit_zero (S := S3x640x3072) hz3 _ a
/-- Loading a whole key-shaped buffer. -/
theorem ld1 (a : Vec Ideal S3x640x512 .bf16) : View.ld a r0_1 = a := View.ld_unit_zero (S := S3x640x512) hz3 _ a
/-- Loading the whole segment buffer. -/
theorem ld3 (a : Vec Ideal S3x640 .i32) : View.ld a r0_6 = a := View.ld_unit_zero (S := S3x640) hz2 _ a

/-- The reference's attention. -/
def G4 (a0 : Vec Ideal S3x640x3072 .bf16) (a1 : Vec Ideal S3x640x512 .bf16) (a2 : Vec Ideal S3x640x512 .bf16) (a3 : Vec Ideal S3x640 .i32) : Vec Ideal S3x640x3072 .bf16 :=
  k0_pay22 (k0_pay19 (k0_pay13 a2) (Scalar.ofBits .f32 0x43E00000#32) (k0_pay14 a2)) (k0_pay20 (k0_pay3 a0) (k0_pay4 a0) (k0_pay10 (k0_pay5 a1) (k0_pay6 a1) (k0_pay7 a1) (Scalar.ofBits .f32 0x3F800000#32))) (k0_pay21 (k0_pay9 (k0_pay6 a1) (k0_pay7 a1) (Scalar.ofBits .f32 0x3F800000#32))) a3

/-- What the body leaves in its output window 4. -/
theorem out4 (a0 : Vec Ideal S3x640x3072 .bf16) (a1 : Vec Ideal S3x640x512 .bf16) (a2 : Vec Ideal S3x640x512 .bf16) (a3 : Vec Ideal S3x640 .i32) : out0_4 (F := Ideal) a0 a1 a2 a3 = G4 a0 a1 a2 a3 := by
  unfold out0_4 G4
  rw [View.canon_unit_zero hz3]
  simp only [k0_pay23, k0_pay24, k0_pay25, k0_pay26, k0_pay27, k0_pay28, k0_pay29, k0_pay30, ld0, ld1, ld3]

/-- What the run leaves in the array of window 4. -/
theorem arr4 : (dats m 0 c).arrAt 4 cfg0.N = G4 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4, blk0, blk1, blk2, blk3]
  rw [out4]
  generalize G4 (m ((c.tc : Thread nD τ).loc main_arg0)) (m ((c.tc : Thread nD τ).loc main_arg1)) (m ((c.tc : Thread nD τ).loc main_arg2)) (m ((c.tc : Thread nD τ).loc main_arg3)) = g
  refine congrArg g ?_
  blk_ext [idx t]

/-- The reference's query codes. -/
def G5 (a0 : Vec Ideal S3x640x3072 .bf16) (a1 : Vec Ideal S3x640x512 .bf16) (a2 : Vec Ideal S3x640x512 .bf16) (a3 : Vec Ideal S3x640 .i32) : Vec Ideal S3x640x12x256 .fp8e4m3 :=
  k0_pay4 a0

/-- What the body leaves in its output window 5. -/
theorem out5 (a0 : Vec Ideal S3x640x3072 .bf16) (a1 : Vec Ideal S3x640x512 .bf16) (a2 : Vec Ideal S3x640x512 .bf16) (a3 : Vec Ideal S3x640 .i32) : out0_5 (F := Ideal) a0 a1 a2 a3 = G5 a0 a1 a2 a3 := by
  unfold out0_5 G5
  rw [View.canon_unit_zero hz4]
  simp only [k0_pay23, k0_pay24, k0_pay25, k0_pay26, k0_pay27, k0_pay28, k0_pay29, k0_pay30, ld0, ld1, ld3]

/-- What the run leaves in the array of window 5. -/
theorem arr5 : (dats m 0 c).arrAt 5 cfg0.N = G5 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5, blk0, blk1, blk2, blk3]
  rw [out5]
  generalize G5 (m ((c.tc : Thread nD τ).loc main_arg0)) (m ((c.tc : Thread nD τ).loc main_arg1)) (m ((c.tc : Thread nD τ).loc main_arg2)) (m ((c.tc : Thread nD τ).loc main_arg3)) = g
  refine congrArg g ?_
  blk_ext [idx t]

/-- The reference's query scales. -/
def G6 (a0 : Vec Ideal S3x640x3072 .bf16) (a1 : Vec Ideal S3x640x512 .bf16) (a2 : Vec Ideal S3x640x512 .bf16) (a3 : Vec Ideal S3x640 .i32) : Vec Ideal S3x640x12 .f32 :=
  k0_pay16 (k0_pay3 a0)

/-- What the body leaves in its output window 6. -/
theorem out6 (a0 : Vec Ideal S3x640x3072 .bf16) (a1 : Vec Ideal S3x640x512 .bf16) (a2 : Vec Ideal S3x640x512 .bf16) (a3 : Vec Ideal S3x640 .i32) : out0_6 (F := Ideal) a0 a1 a2 a3 = G6 a0 a1 a2 a3 := by
  unfold out0_6 G6
  rw [View.canon_unit_zero hz3]
  simp only [k0_pay23, k0_pay24, k0_pay25, k0_pay26, k0_pay27, k0_pay28, k0_pay29, k0_pay30, ld0, ld1, ld3]

/-- What the run leaves in the array of window 6. -/
theorem arr6 : (dats m 0 c).arrAt 6 cfg0.N = G6 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6, blk0, blk1, blk2, blk3]
  rw [out6]
  generalize G6 (m ((c.tc : Thread nD τ).loc main_arg0)) (m ((c.tc : Thread nD τ).loc main_arg1)) (m ((c.tc : Thread nD τ).loc main_arg2)) (m ((c.tc : Thread nD τ).loc main_arg3)) = g
  refine congrArg g ?_
  blk_ext [idx t]

/-- The reference's key codes. -/
def G7 (a0 : Vec Ideal S3x640x3072 .bf16) (a1 : Vec Ideal S3x640x512 .bf16) (a2 : Vec Ideal S3x640x512 .bf16) (a3 : Vec Ideal S3x640 .i32) : Vec Ideal S3x640x2x256 .fp8e4m3 :=
  k0_pay10 (k0_pay5 a1) (k0_pay6 a1) (k0_pay7 a1) (Scalar.ofBits .f32 0x3F800000#32)

/-- What the body leaves in its output window 7. -/
theorem out7 (a0 : Vec Ideal S3x640x3072 .bf16) (a1 : Vec Ideal S3x640x512 .bf16) (a2 : Vec Ideal S3x640x512 .bf16) (a3 : Vec Ideal S3x640 .i32) : out0_7 (F := Ideal) a0 a1 a2 a3 = G7 a0 a1 a2 a3 := by
  unfold out0_7 G7
  rw [View.canon_unit_zero hz4]
  simp only [k0_pay23, k0_pay24, k0_pay25, k0_pay26, k0_pay27, k0_pay28, k0_pay29, k0_pay30, ld0, ld1, ld3]

/-- What the run leaves in the array of window 7. -/
theorem arr7 : (dats m 0 c).arrAt 7 cfg0.N = G7 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7, blk0, blk1, blk2, blk3]
  rw [out7]
  generalize G7 (m ((c.tc : Thread nD τ).loc main_arg0)) (m ((c.tc : Thread nD τ).loc main_arg1)) (m ((c.tc : Thread nD τ).loc main_arg2)) (m ((c.tc : Thread nD τ).loc main_arg3)) = g
  refine congrArg g ?_
  blk_ext [idx t]

/-- The reference's key scales. -/
def G8 (a0 : Vec Ideal S3x640x3072 .bf16) (a1 : Vec Ideal S3x640x512 .bf16) (a2 : Vec Ideal S3x640x512 .bf16) (a3 : Vec Ideal S3x640 .i32) : Vec Ideal S3x640x2 .f32 :=
  k0_pay17 (k0_pay9 (k0_pay6 a1) (k0_pay7 a1) (Scalar.ofBits .f32 0x3F800000#32))

/-- What the body leaves in its output window 8. -/
theorem out8 (a0 : Vec Ideal S3x640x3072 .bf16) (a1 : Vec Ideal S3x640x512 .bf16) (a2 : Vec Ideal S3x640x512 .bf16) (a3 : Vec Ideal S3x640 .i32) : out0_8 (F := Ideal) a0 a1 a2 a3 = G8 a0 a1 a2 a3 := by
  unfold out0_8 G8
  rw [View.canon_unit_zero hz3]
  simp only [k0_pay23, k0_pay24, k0_pay25, k0_pay26, k0_pay27, k0_pay28, k0_pay29, k0_pay30, ld0, ld1, ld3]

/-- What the run leaves in the array of window 8. -/
theorem arr8 : (dats m 0 c).arrAt 8 cfg0.N = G8 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t hf y => ?_
  blk_simp
  rw [after0_8, blk0, blk1, blk2, blk3]
  rw [out8]
  generalize G8 (m ((c.tc : Thread nD τ).loc main_arg0)) (m ((c.tc : Thread nD τ).loc main_arg1)) (m ((c.tc : Thread nD τ).loc main_arg2)) (m ((c.tc : Thread nD τ).loc main_arg3)) = g
  refine congrArg g ?_
  blk_ext [idx t]

/-- The reference's value codes. -/
def G9 (a0 : Vec Ideal S3x640x3072 .bf16) (a1 : Vec Ideal S3x640x512 .bf16) (a2 : Vec Ideal S3x640x512 .bf16) (a3 : Vec Ideal S3x640 .i32) : Vec Ideal S3x640x2x256 .fp8e4m3 :=
  k0_pay15 (Scalar.ofBits .f32 0x43E00000#32) (k0_pay14 a2)

/-- What the body leaves in its output window 9. -/
theorem out9 (a0 : Vec Ideal S3x640x3072 .bf16) (a1 : Vec Ideal S3x640x512 .bf16) (a2 : Vec Ideal S3x640x512 .bf16) (a3 : Vec Ideal S3x640 .i32) : out0_9 (F := Ideal) a0 a1 a2 a3 = G9 a0 a1 a2 a3 := by
  unfold out0_9 G9
  rw [View.canon_unit_zero hz4]
  simp only [k0_pay23, k0_pay24, k0_pay25, k0_pay26, k0_pay27, k0_pay28, k0_pay29, k0_pay30, ld0, ld1, ld3]

/-- What the run leaves in the array of window 9. -/
theorem arr9 : (dats m 0 c).arrAt 9 cfg0.N = G9 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  rw [after0_9, blk0, blk1, blk2, blk3]
  rw [out9]
  generalize G9 (m ((c.tc : Thread nD τ).loc main_arg0)) (m ((c.tc : Thread nD τ).loc main_arg1)) (m ((c.tc : Thread nD τ).loc main_arg2)) (m ((c.tc : Thread nD τ).loc main_arg3)) = g
  refine congrArg g ?_
  blk_ext [idx t]

/-- The reference's value scales. -/
def G10 (a0 : Vec Ideal S3x640x3072 .bf16) (a1 : Vec Ideal S3x640x512 .bf16) (a2 : Vec Ideal S3x640x512 .bf16) (a3 : Vec Ideal S3x640 .i32) : Vec Ideal S3x640x2 .f32 :=
  k0_pay18 (k0_pay13 a2)

/-- What the body leaves in its output window 10. -/
theorem out10 (a0 : Vec Ideal S3x640x3072 .bf16) (a1 : Vec Ideal S3x640x512 .bf16) (a2 : Vec Ideal S3x640x512 .bf16) (a3 : Vec Ideal S3x640 .i32) : out0_10 (F := Ideal) a0 a1 a2 a3 = G10 a0 a1 a2 a3 := by
  unfold out0_10 G10
  rw [View.canon_unit_zero hz3]
  simp only [k0_pay23, k0_pay24, k0_pay25, k0_pay26, k0_pay27, k0_pay28, k0_pay29, k0_pay30, ld0, ld1, ld3]

/-- What the run leaves in the array of window 10. -/
theorem arr10 : (dats m 0 c).arrAt 10 cfg0.N = G10 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t hf y => ?_
  blk_simp
  rw [after0_10, blk0, blk1, blk2, blk3]
  rw [out10]
  generalize G10 (m ((c.tc : Thread nD τ).loc main_arg0)) (m ((c.tc : Thread nD τ).loc main_arg1)) (m ((c.tc : Thread nD τ).loc main_arg2)) (m ((c.tc : Thread nD τ).loc main_arg3)) = g
  refine congrArg g ?_
  blk_ext [idx t]

/-- The run of the reference with every result named. -/
theorem ref_run : θ_run defs (onTc (τ := τ) (main (F := Ideal))) ⟨m, fun _ => 0, ρ⟩ fun r => ∀ c : Dev nD,
    r.2.mem ((c.tc : Thread nD τ).loc main_v0_0) = G4 (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_1) = G5 (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = G6 (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_3) = G7 (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_4) = G8 (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_5) = G9 (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_6) = G10 (m ((c.tc : Thread nD τ).loc main_arg0)) (m ((c.tc : Thread nD τ).loc main_arg1)) (m ((c.tc : Thread nD τ).loc main_arg2)) (m ((c.tc : Thread nD τ).loc main_arg3)) :=
  (θ_run defs _ _).mono (fun r h c => ⟨((h c).1 4).trans (arr4 m c), ((h c).1 5).trans (arr5 m c), ((h c).1 6).trans (arr6 m c), ((h c).1 7).trans (arr7 m c), ((h c).1 8).trans (arr8 m c), ((h c).1 9).trans (arr9 m c), ((h c).1 10).trans (arr10 m c)⟩) (run_main m ρ)

end Cert.Fp8.Ref
end
-- ==== Proof.RefRead.lean ====
module

public import proofs.«01_k».proof.Proof.Pieces

@[expose] public section

set_option maxRecDepth 16384

noncomputable section

/-! Reading the reference's reshapes, reductions and quantiser at an index. -/

namespace Cert.Fp8.Ref

open Idealize.ShloMosaic

/-- A row split in heads of 256 lanes. -/
theorem rd_split {α : Type} {H M : ℕ} (a : (⟨3, ![3, 640, M]⟩ : Shape).Idx → α)
    (h : (⟨3, ![3, 640, M]⟩ : Shape).ShapeCasts ⟨4, ![3, 640, H, 256]⟩) (b : Fin 3) (r : Fin 640) (g : Fin H) (d : Fin 256) (k : Fin M)
    (hk : k.val = 256 * g.val + d.val) (hM : M = 256 * H) :
    shapeCast ⟨4, ![3, 640, H, 256]⟩ a h (ix4 b r g d) = a (ix3 b r k) :=
  shapeCast_apply _ _ _ _ (by
    rw [Shape.rowMajor_val_three, Shape.rowMajor_val_four]
    show (b.val * 640 + r.val) * M + k.val = ((b.val * 640 + r.val) * H + g.val) * 256 + d.val
    rw [hk, hM]; ring)

/-- A trailing unit axis added. -/
theorem rd_unit {α : Type} {H : ℕ} (a : (⟨3, ![3, 640, H]⟩ : Shape).Idx → α)
    (h : (⟨3, ![3, 640, H]⟩ : Shape).ShapeCasts ⟨4, ![3, 640, H, 1]⟩) (b : Fin 3) (r : Fin 640) (g : Fin H) (d : Fin 1) :
    shapeCast ⟨4, ![3, 640, H, 1]⟩ a h (ix4 b r g d) = a (ix3 b r g) :=
  shapeCast_apply _ _ _ _ (by
    rw [Shape.rowMajor_val_three, Shape.rowMajor_val_four]
    show (b.val * 640 + r.val) * H + g.val = ((b.val * 640 + r.val) * H + g.val) * 1 + d.val
    omega)

/-- A trailing unit axis dropped. -/
theorem rd_drop {α : Type} {H : ℕ} (a : (⟨4, ![3, 640, H, 1]⟩ : Shape).Idx → α)
    (h : (⟨4, ![3, 640, H, 1]⟩ : Shape).ShapeCasts ⟨3, ![3, 640, H]⟩) (b : Fin 3) (r : Fin 640) (g : Fin H) :
    shapeCast ⟨3, ![3, 640, H]⟩ a h (ix3 b r g) = a (ix4 b r g 0) :=
  shapeCast_apply _ _ _ _ (by
    rw [Shape.rowMajor_val_three, Shape.rowMajor_val_four]
    show ((b.val * 640 + r.val) * H + g.val) * 1 + 0 = (b.val * 640 + r.val) * H + g.val
    omega)

/-- The constant with these bits, as a number. -/
theorem ofBits_bot32 : Ideal.ofBits .f32 4286578688#32 = (⊥ : EReal) := by simp [Ideal.ofBits, Ideal.ieee]

/-- The maximum over the last axis of a rank-four array. -/
theorem rd_max {H : ℕ} (x : FVec Ideal ⟨4, ![3, 640, H, 256]⟩ .f32) (h : (⟨4, ![3, 640, H, 256]⟩ : Shape).Reduces [3] ⟨3, ![3, 640, H]⟩)
    (hf) (hn) (b : Fin 3) (r : Fin 640) (g : Fin H) :
    multiReduction .maximumf [3] ⟨3, ![3, 640, H]⟩ (absf x) 0xFF800000#32 h hf hn (ix3 b r g)
      = Finset.univ.fold max ⊥ fun d : Fin 256 => mag (x (ix4 b r g d)) := by
  pointwise
  rw [ofBits_bot32]
  rfl

/-- The exponent of a magnitude, elementwise. -/
def lgv (s : Shape) (c1 c2 : Ideal .f32) (m : FVec Ideal s .f32) : FVec Ideal s .f32 :=
  select (cmpf .oeq m (broadcast s (Scalar.ofBits .f32 0x00000000#32 : Ideal .f32))) (broadcast s (Scalar.ofBits .f32 0x00000000#32 : Ideal .f32))
    (addf (floor (mulf (log (mulf m (broadcast s c1))) (broadcast s c2))) (broadcast s (Scalar.ofBits .f32 0x3F800000#32 : Ideal .f32)))

/-- The exponent of a row from its largest magnitude, at an index. -/
theorem lgv_apply (s : Shape) (c1 c2 : Ideal .f32) (m : FVec Ideal s .f32) (x : s.Idx) (h1 : c1 = ((1 / 448 : ℝ) : EReal))
    (h2 : c2 = (((Real.log 2)⁻¹ : ℝ) : EReal)) : lgv s c1 c2 m x = lg (m x) := by
  have e0 : (Scalar.ofBits .f32 0x00000000#32 : Ideal .f32) = (0 : EReal) := Ideal.ofBits_zero_f32
  have e1 : (Scalar.ofBits .f32 0x3F800000#32 : Ideal .f32) = (1 : EReal) := ofBits_one32
  unfold lgv
  rw [e0, e1, h1, h2]
  pointwise
  unfold lg
  rfl

/-- The codes of an array under a column of exponents. -/
def codv {H : ℕ} (v : FVec Ideal ⟨4, ![3, 640, H, 256]⟩ .f32) (e : FVec Ideal ⟨4, ![3, 640, H, 1]⟩ .f32)
    (h : (⟨4, ![3, 640, H, 1]⟩ : Shape).Broadcasts ⟨4, ![3, 640, H, 256]⟩) : FVec Ideal ⟨4, ![3, 640, H, 256]⟩ .f32 :=
  minimumf (broadcast _ (Scalar.ofBits .f32 0x43E00000#32 : Ideal .f32)) (maximumf (broadcast _ (Scalar.ofBits .f32 0xC3E00000#32 : Ideal .f32))
    (mulf v (broadcastTo ⟨4, ![3, 640, H, 256]⟩ (exp2 (subf (broadcast _ (Scalar.ofBits .f32 0x00000000#32 : Ideal .f32)) e)) h)))

/-- Repeating a row quantity along the lanes, at an index. -/
theorem rd_bcast {α : Type} {H : ℕ} (e : (⟨4, ![3, 640, H, 1]⟩ : Shape).Idx → α)
    (h : (⟨4, ![3, 640, H, 1]⟩ : Shape).Broadcasts ⟨4, ![3, 640, H, 256]⟩) (hH : H ≠ 1) (b : Fin 3) (r : Fin 640) (g : Fin H) (d : Fin 256) :
    broadcastTo ⟨4, ![3, 640, H, 256]⟩ e h (ix4 b r g d) = e (ix4 b r g 0) :=
  broadcastTo_apply _ _ _ _ fun a => by
    match a with
    | ⟨0, _⟩ => rfl
    | ⟨1, _⟩ => rfl
    | ⟨2, _⟩ => show g.val = if H = 1 then 0 else g.val; rw [if_neg hH]
    | ⟨3, _⟩ => rfl

/-- The codes of a split array, at an index. -/
theorem codv_apply {H : ℕ} (v e h) (hH : H ≠ 1) (b : Fin 3) (r : Fin 640) (g : Fin H) (d : Fin 256) :
    codv v e h (ix4 b r g d) = clip (v (ix4 b r g d) * Ideal.exp2 (0 - e (ix4 b r g 0))) := by
  have e0 : (Scalar.ofBits .f32 0x00000000#32 : Ideal .f32) = (0 : EReal) := Ideal.ofBits_zero_f32
  unfold codv
  rw [e0]
  refine Eq.trans (b := clip (v (ix4 b r g d) * broadcastTo ⟨4, ![3, 640, H, 256]⟩ (exp2 (subf (broadcast _ (0 : Ideal .f32)) e)) h (ix4 b r g d))) rfl ?_
  rw [rd_bcast _ h hH]
  rfl

/-- The exponents of an array's rows. -/
def expv {H : ℕ} (c1 c2 : Ideal .f32) (v : FVec Ideal ⟨4, ![3, 640, H, 256]⟩ .f32) (h : (⟨4, ![3, 640, H, 256]⟩ : Shape).Reduces [3] ⟨3, ![3, 640, H]⟩)
    (h2 : (⟨3, ![3, 640, H]⟩ : Shape).ShapeCasts ⟨4, ![3, 640, H, 1]⟩) : FVec Ideal ⟨4, ![3, 640, H, 1]⟩ .f32 :=
  lgv _ c1 c2 (shapeCast ⟨4, ![3, 640, H, 1]⟩ (multiReduction .maximumf [3] ⟨3, ![3, 640, H]⟩ (absf v) 0xFF800000#32 h (.inl rfl) rfl) h2)

/-- The exponents of a split array, at an index. -/
theorem expv_apply {H : ℕ} (c1 c2 v h h2) (h1 : c1 = ((1 / 448 : ℝ) : EReal)) (h3 : c2 = (((Real.log 2)⁻¹ : ℝ) : EReal))
    (T : ℕ → ℕ → ℕ → EReal) (hv : ∀ b r g d, v (ix4 b r g d) = T b.val r.val (256 * g.val + d.val)) (b : Fin 3) (r : Fin 640) (g : Fin H) (l : Fin 1) :
    expv c1 c2 v h h2 (ix4 b r g l) = lg (amx (T b.val) r.val (256 * g.val)) := by
  unfold expv
  rw [lgv_apply _ _ _ _ _ h1 h3, rd_unit]
  refine (congrArg lg (rd_max v h _ _ b r g)).trans ?_
  simp only [hv]
  rfl

end Cert.Fp8.Ref

end
-- ==== Proof.RefQuant.lean ====
module

public import proofs.«01_k».proof.Proof.RefRead
public import proofs.«01_k».proof.Proof.RefRun

@[expose] public section

set_option maxRecDepth 16384

noncomputable section

/-! The reference's codes and scales at an index. -/

namespace Cert.Fp8.Ref

open Idealize.ShloMosaic Idealize.ShloMosaic.TcCoe Cert.ReferenceIdeal Cert.ReferenceIdeal.Gen

/-- The named constant is 1/448. -/
theorem c1_eq : (Named.named κ "inv_e4m3_max" 0x3B124925#32 : Ideal .f32) = ((1 / 448 : ℝ) : EReal) := by
  simp [Named.named, κ]

/-- The named constant is one over the logarithm of two. -/
theorem c2_eq : (Named.named κ "inv_log2" 0x3FB8AA3B#32 : Ideal .f32) = (((Real.log 2)⁻¹ : ℝ) : EReal) := by
  simp [Named.named, κ]

/-- Widening changes nothing over the reals. -/
theorem rd_extf {s : Shape} {φ ψ : FTy} (x : FVec Ideal s φ) (h : φ.bits < ψ.bits) (i : s.Idx) : (extf ψ x h : FVec Ideal s ψ) i = (x i : EReal) := rfl

/-- Narrowing changes nothing over the reals. -/
theorem rd_truncf {s : Shape} {φ ψ : FTy} (x : FVec Ideal s φ) (h : ψ.bits < φ.bits) (i : s.Idx) : (truncf ψ x h : FVec Ideal s ψ) i = (x i : EReal) := rfl

/-- The power of two, at an index. -/
theorem rd_exp2 {s : Shape} (x : FVec Ideal s .f32) (i : s.Idx) : exp2 x i = Ideal.exp2 (x i) := rfl

attribute [local irreducible] select shapeCast transpose broadcastTo multiReduction cmpf absf mulf maximumf minimumf extf truncf subf addf exp2 log floor

/-- The queries split into heads, at an index. -/
theorem pay1_apply (a : Vec Ideal S3x640x3072 .bf16) (T : ℕ → ℕ → ℕ → EReal) (hT : ∀ b r k, a (ix3 b r k) = T b.val r.val k.val)
    (b : Fin 3) (r : Fin 640) (g : Fin 12) (d : Fin 256) : k0_pay1 a (ix4 b r g d) = T b.val r.val (256 * g.val + d.val) := by
  unfold k0_pay1
  refine (rd_split (H := 12) (M := 3072) _ _ b r g d ⟨256 * g.val + d.val, by omega⟩ rfl rfl).trans ?_
  refine (rd_extf (s := S3x640x3072) (φ := .bf16) (ψ := .f32) a bitsLt_bf16_f32 _).trans ?_
  exact hT _ _ _

/-- The keys split into heads, at an index. -/
theorem pay5_apply (a : Vec Ideal S3x640x512 .bf16) (T : ℕ → ℕ → ℕ → EReal) (hT : ∀ b r k, a (ix3 b r k) = T b.val r.val k.val)
    (b : Fin 3) (r : Fin 640) (g : Fin 2) (d : Fin 256) : k0_pay5 a (ix4 b r g d) = T b.val r.val (256 * g.val + d.val) := by
  unfold k0_pay5
  refine (rd_split (H := 2) (M := 512) _ _ b r g d ⟨256 * g.val + d.val, by omega⟩ rfl rfl).trans ?_
  refine (rd_extf (s := S3x640x512) (φ := .bf16) (ψ := .f32) a bitsLt_bf16_f32 _).trans ?_
  exact hT _ _ _

/-- The values split into heads, at an index. -/
theorem pay11_apply (a : Vec Ideal S3x640x512 .bf16) (T : ℕ → ℕ → ℕ → EReal) (hT : ∀ b r k, a (ix3 b r k) = T b.val r.val k.val)
    (b : Fin 3) (r : Fin 640) (g : Fin 2) (d : Fin 256) : k0_pay11 a (ix4 b r g d) = T b.val r.val (256 * g.val + d.val) := by
  unfold k0_pay11
  refine (rd_split (H := 2) (M := 512) _ _ b r g d ⟨256 * g.val + d.val, by omega⟩ rfl rfl).trans ?_
  refine (rd_extf (s := S3x640x512) (φ := .bf16) (ψ := .f32) a bitsLt_bf16_f32 _).trans ?_
  exact hT _ _ _

/-- The exponent of a query row, at an index. -/
theorem pay2_apply (a : Vec Ideal S3x640x3072 .bf16) (T : ℕ → ℕ → ℕ → EReal) (hT : ∀ b r k, a (ix3 b r k) = T b.val r.val k.val)
    (b : Fin 3) (r : Fin 640) (g : Fin 12) (l : Fin 1) : k0_pay2 a (ix4 b r g l) = lg (amx (T b.val) r.val (256 * g.val)) :=
  (rfl : k0_pay2 a (ix4 b r g l) = expv _ _ (k0_pay1 a) reduces_S3x640x12x256_S3x640x12 shapeCasts_S3x640x12_S3x640x12x1 (ix4 b r g l)).trans
    (expv_apply _ _ _ _ _ c1_eq c2_eq T (pay1_apply a T hT) b r g l)

/-- The exponent of a key row, at an index. -/
theorem pay8_apply (a : Vec Ideal S3x640x512 .bf16) (T : ℕ → ℕ → ℕ → EReal) (hT : ∀ b r k, a (ix3 b r k) = T b.val r.val k.val)
    (b : Fin 3) (r : Fin 640) (g : Fin 2) (l : Fin 1) :
    k0_pay8 (k0_pay6 a) (k0_pay7 a) (Scalar.ofBits .f32 0x3F800000#32) (ix4 b r g l) = lg (amx (T b.val) r.val (256 * g.val)) :=
  (rfl : k0_pay8 (k0_pay6 a) (k0_pay7 a) (Scalar.ofBits .f32 0x3F800000#32) (ix4 b r g l)
    = expv _ _ (k0_pay5 a) reduces_S3x640x2x256_S3x640x2 shapeCasts_S3x640x2_S3x640x2x1 (ix4 b r g l)).trans
    (expv_apply _ _ _ _ _ c1_eq c2_eq T (pay5_apply a T hT) b r g l)

/-- The exponent of a value row, at an index. -/
theorem pay12_apply (a : Vec Ideal S3x640x512 .bf16) (T : ℕ → ℕ → ℕ → EReal) (hT : ∀ b r k, a (ix3 b r k) = T b.val r.val k.val)
    (b : Fin 3) (r : Fin 640) (g : Fin 2) (l : Fin 1) : k0_pay12 a (ix4 b r g l) = lg (amx (T b.val) r.val (256 * g.val)) :=
  (rfl : k0_pay12 a (ix4 b r g l) = expv _ _ (k0_pay11 a) reduces_S3x640x2x256_S3x640x2 shapeCasts_S3x640x2_S3x640x2x1 (ix4 b r g l)).trans
    (expv_apply _ _ _ _ _ c1_eq c2_eq T (pay11_apply a T hT) b r g l)

/-- A code as the reference spells it. -/
def rcod (T : ℕ → ℕ → EReal) (h r d : ℕ) : EReal := clip (T r (256 * h + d) * Ideal.exp2 (0 - lg (amx T r (256 * h))))

/-- A scale as the reference spells it. -/
def rscl (T : ℕ → ℕ → EReal) (h r : ℕ) : EReal := Ideal.exp2 (lg (amx T r (256 * h)))

/-- The scale of a query row, with its unit axis, at an index. -/
theorem pay3_apply (a : Vec Ideal S3x640x3072 .bf16) (T : ℕ → ℕ → ℕ → EReal) (hT : ∀ b r k, a (ix3 b r k) = T b.val r.val k.val)
    (b : Fin 3) (r : Fin 640) (g : Fin 12) (l : Fin 1) : k0_pay3 a (ix4 b r g l) = rscl (T b.val) g.val r.val :=
  (rd_exp2 _ _).trans (congrArg Ideal.exp2 <| pay2_apply a T hT b r g l)

/-- The scale of a key row, with its unit axis, at an index. -/
theorem pay9_apply (a : Vec Ideal S3x640x512 .bf16) (T : ℕ → ℕ → ℕ → EReal) (hT : ∀ b r k, a (ix3 b r k) = T b.val r.val k.val)
    (b : Fin 3) (r : Fin 640) (g : Fin 2) (l : Fin 1) :
    k0_pay9 (k0_pay6 a) (k0_pay7 a) (Scalar.ofBits .f32 0x3F800000#32) (ix4 b r g l) = rscl (T b.val) g.val r.val :=
  (rd_exp2 _ _).trans (congrArg Ideal.exp2 <| pay8_apply a T hT b r g l)

/-- The scale of a value row, with its unit axis, at an index. -/
theorem pay13_apply (a : Vec Ideal S3x640x512 .bf16) (T : ℕ → ℕ → ℕ → EReal) (hT : ∀ b r k, a (ix3 b r k) = T b.val r.val k.val)
    (b : Fin 3) (r : Fin 640) (g : Fin 2) (l : Fin 1) : k0_pay13 a (ix4 b r g l) = rscl (T b.val) g.val r.val :=
  (rd_exp2 _ _).trans (congrArg Ideal.exp2 <| pay12_apply a T hT b r g l)

/-- The query codes, at an index. -/
theorem pay4_apply (a : Vec Ideal S3x640x3072 .bf16) (T : ℕ → ℕ → ℕ → EReal) (hT : ∀ b r k, a (ix3 b r k) = T b.val r.val k.val)
    (b : Fin 3) (r : Fin 640) (g : Fin 12) (d : Fin 256) : k0_pay4 a (ix4 b r g d) = rcod (T b.val) g.val r.val d.val := by
  refine (rd_truncf (codv (k0_pay1 a) (k0_pay2 a) broadcasts_S3x640x12x1_S3x640x12x256) bitsLt_fp8e4m3_f32 (ix4 b r g d)).trans ?_
  refine (codv_apply (H := 12) _ _ _ (by decide) b r g d).trans ?_
  rw [pay1_apply a T hT, pay2_apply a T hT, rcod]

/-- The key codes, at an index. -/
theorem pay10_apply (a : Vec Ideal S3x640x512 .bf16) (T : ℕ → ℕ → ℕ → EReal) (hT : ∀ b r k, a (ix3 b r k) = T b.val r.val k.val)
    (b : Fin 3) (r : Fin 640) (g : Fin 2) (d : Fin 256) :
    k0_pay10 (k0_pay5 a) (k0_pay6 a) (k0_pay7 a) (Scalar.ofBits .f32 0x3F800000#32) (ix4 b r g d) = rcod (T b.val) g.val r.val d.val := by
  refine (rd_truncf (codv (k0_pay5 a) (k0_pay8 (k0_pay6 a) (k0_pay7 a) (Scalar.ofBits .f32 0x3F800000#32)) broadcasts_S3x640x2x1_S3x640x2x256) bitsLt_fp8e4m3_f32 (ix4 b r g d)).trans ?_
  refine (codv_apply (H := 2) _ _ _ (by decide) b r g d).trans ?_
  rw [pay5_apply a T hT, pay8_apply a T hT, rcod]

/-- The value codes, at an index. -/
theorem pay15_apply (a : Vec Ideal S3x640x512 .bf16) (T : ℕ → ℕ → ℕ → EReal) (hT : ∀ b r k, a (ix3 b r k) = T b.val r.val k.val)
    (b : Fin 3) (r : Fin 640) (g : Fin 2) (d : Fin 256) :
    k0_pay15 (Scalar.ofBits .f32 0x43E00000#32) (k0_pay14 a) (ix4 b r g d) = rcod (T b.val) g.val r.val d.val := by
  refine (rd_truncf (codv (k0_pay11 a) (k0_pay12 a) broadcasts_S3x640x2x1_S3x640x2x256) bitsLt_fp8e4m3_f32 (ix4 b r g d)).trans ?_
  refine (codv_apply (H := 2) _ _ _ (by decide) b r g d).trans ?_
  rw [pay11_apply a T hT, pay12_apply a T hT, rcod]

/-- The query scales as returned, at an index. -/
theorem pay16_apply (a : Vec Ideal S3x640x3072 .bf16) (T : ℕ → ℕ → ℕ → EReal) (hT : ∀ b r k, a (ix3 b r k) = T b.val r.val k.val)
    (b : Fin 3) (r : Fin 640) (g : Fin 12) : k0_pay16 (k0_pay3 a) (ix3 b r g) = rscl (T b.val) g.val r.val :=
  (rd_drop _ _ b r g).trans (pay3_apply a T hT b r g 0)

/-- The key scales as returned, at an index. -/
theorem pay17_apply (a : Vec Ideal S3x640x512 .bf16) (T : ℕ → ℕ → ℕ → EReal) (hT : ∀ b r k, a (ix3 b r k) = T b.val r.val k.val)
    (b : Fin 3) (r : Fin 640) (g : Fin 2) :
    k0_pay17 (k0_pay9 (k0_pay6 a) (k0_pay7 a) (Scalar.ofBits .f32 0x3F800000#32)) (ix3 b r g) = rscl (T b.val) g.val r.val :=
  (rd_drop _ _ b r g).trans (pay9_apply a T hT b r g 0)

/-- The value scales as returned, at an index. -/
theorem pay18_apply (a : Vec Ideal S3x640x512 .bf16) (T : ℕ → ℕ → ℕ → EReal) (hT : ∀ b r k, a (ix3 b r k) = T b.val r.val k.val)
    (b : Fin 3) (r : Fin 640) (g : Fin 2) : k0_pay18 (k0_pay13 a) (ix3 b r g) = rscl (T b.val) g.val r.val :=
  (rd_drop _ _ b r g).trans (pay13_apply a T hT b r g 0)

end Cert.Fp8.Ref

end
-- ==== Proof.Soft.lean ====
module

public import proofs.«01_k».proof.Proof.Att

@[expose] public section

noncomputable section

/-! The attention of one query row, the kernel's spelling against the plain softmax. -/

namespace Cert.Fp8

open Idealize.ShloMosaic

/-- The plain attention of one row over 640 keys: the scores `s`, softmax, weights as clipped codes of 256 times themselves. -/
def softRow (s V : ℕ → EReal) : EReal :=
  Ideal.div (∑ k : Fin 640, clip (Ideal.exp (s k - Finset.univ.fold max ⊥ fun x : Fin 640 => s x) * 256) * V k)
    (256 * ∑ k : Fin 640, Ideal.exp (s k - Finset.univ.fold max ⊥ fun x : Fin 640 => s x))

/-- The constant with these bits, as a number. -/
theorem ofBits_448 : Ideal.ofBits .f32 1138753536#32 = ((448 : ℝ) : EReal) := by
  simp [Ideal.ofBits, Ideal.ieee]; rw [← EReal.coe_mul, EReal.coe_eq_coe_iff]; norm_num

/-- The constant with these bits, as a number. -/
theorem ofBits_neg448 : Ideal.ofBits .f32 3286237184#32 = ((-448 : ℝ) : EReal) := by
  simp [Ideal.ofBits, Ideal.ieee]; rw [← EReal.coe_mul, EReal.coe_eq_coe_iff]; norm_num

/-- The clip of a real. -/
theorem clip_coe (x : ℝ) : clip (x : EReal) = ((min 448 (max (-448) x) : ℝ) : EReal) := by
  rw [clip, ofBits_448, ofBits_neg448, EReal.coe_strictMono.monotone.map_min, EReal.coe_strictMono.monotone.map_max]

/-- Whatever is clipped is real. -/
theorem clip_real (x : EReal) : ∃ r : ℝ, clip x = (r : EReal) := by
  induction x with
  | bot => exact ⟨-448, by rw [clip, ofBits_448, ofBits_neg448, max_eq_left bot_le, min_eq_right (by exact_mod_cast (by norm_num : (-448 : ℝ) ≤ 448))]⟩
  | top => exact ⟨448, by rw [clip, ofBits_448, ofBits_neg448, max_eq_right le_top, min_eq_left le_top]⟩
  | coe r => exact ⟨_, clip_coe r⟩

/-- A sum of real numbers, taken among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A fold of maxima is the entry that bounds them all. -/
theorem fold_max_eq {n : ℕ} (f : Fin n → EReal) (k0 : Fin n) (h : ∀ k, f k ≤ f k0) : Finset.univ.fold max ⊥ f = f k0 :=
  le_antisymm ((Finset.fold_max_le _).2 ⟨bot_le, fun x _ => h x⟩) ((Finset.le_fold_max _).2 (.inr ⟨k0, Finset.mem_univ _, le_rfl⟩))

/-- A sum up to the end of the tile is the sum over all keys when the rest is zero. -/
theorem sum_extend (n : ℕ) (hn : n ≤ 640) (f : ℕ → ℝ) (h : ∀ k, n ≤ k → f k = 0) : (∑ k : Fin n, f k) = ∑ k : Fin 640, f k := by
  rw [Fin.sum_univ_eq_sum_range f n, Fin.sum_univ_eq_sum_range f 640]
  refine Finset.sum_subset (Finset.range_mono hn) fun k _ hk => h k ?_
  simpa using hk

/-- The kernel's row over the `n` keys that may be seen is the plain row over all 640. -/
theorem att_eq_soft (n r : ℕ) (hn : n ≤ 640) (hr : r < n) (vis : ℕ → Prop) [DecidablePred vis] (hv : vis r) (hlt : ∀ k, n ≤ k → ¬ vis k)
    (u v : ℕ → ℝ) (q : ℝ) (hq : 0 < q) (t s V : ℕ → EReal) (c : EReal)
    (ht : ∀ k, t k = (u k : EReal) + if vis k then 0 else ⊥)
    (hs : ∀ k, s k = if vis k then ((u k * q * (1 / 16) : ℝ) : EReal) else ⊥)
    (hc : c = ((q * (1 / 16 * (Real.log 2)⁻¹) : ℝ) : EReal)) (hV : ∀ k, V k = (v k : EReal)) :
    att n t c V = softRow s V := by
  have hl2 : 0 < Real.log 2 := Real.log_pos (by norm_num)
  obtain ⟨k0, hk0, hmax⟩ := Finset.exists_max_image ((Finset.range n).filter vis) u ⟨r, by simp [hr, hv]⟩
  simp only [Finset.mem_filter, Finset.mem_range] at hk0 hmax
  have tv : ∀ k, vis k → t k = (u k : EReal) := fun k h => by rw [ht, if_pos h, add_zero]
  have tn : ∀ k, ¬ vis k → t k = ⊥ := fun k h => by rw [ht, if_neg h, EReal.add_bot]
  have sv : ∀ k, vis k → s k = ((u k * q * (1 / 16) : ℝ) : EReal) := fun k h => by rw [hs, if_pos h]
  have sn : ∀ k, ¬ vis k → s k = ⊥ := fun k h => by rw [hs, if_neg h]
  have vn : ∀ k, vis k → k < n := fun k h => by
    by_contra hh
    exact hlt k (by omega) h
  have hcp : 0 < q * (1 / 16 * (Real.log 2)⁻¹) := by positivity
  have mt : (Finset.univ.fold max ⊥ fun x : Fin n => t x) = (u k0 : EReal) := by
    rw [fold_max_eq _ (⟨k0, hk0.1⟩ : Fin n) fun k => ?_, tv _ hk0.2]
    by_cases h : vis k
    · rw [tv _ h, tv _ hk0.2]; exact_mod_cast hmax k ⟨k.isLt, h⟩
    · rw [tn _ h]; exact bot_le
  have ms : (Finset.univ.fold max ⊥ fun x : Fin 640 => s x) = ((u k0 * q * (1 / 16) : ℝ) : EReal) := by
    rw [fold_max_eq _ (⟨k0, by omega⟩ : Fin 640) fun k => ?_, sv _ hk0.2]
    by_cases h : vis k
    · rw [sv _ h, sv _ hk0.2, EReal.coe_le_coe_iff]
      have := hmax k ⟨vn k h, h⟩
      nlinarith [mul_le_mul_of_nonneg_right this hq.le]
    · rw [sn _ h]; exact bot_le
  let w : ℕ → ℝ := fun k => if vis k then Real.exp ((u k - u k0) * q * (1 / 16)) else 0
  have ew : ∀ k, Ideal.exp (s k - Finset.univ.fold max ⊥ fun x : Fin 640 => s x) = (w k : EReal) := by
    intro k
    rw [ms]
    by_cases h : vis k
    · rw [sv _ h, ← EReal.coe_sub, Ideal.exp_coe, EReal.coe_eq_coe_iff]
      simp only [w, if_pos h]
      congr 1; ring
    · rw [sn _ h, EReal.bot_sub, Ideal.exp_bot]
      simp only [w, if_neg h, EReal.coe_zero]
  have eW : ∀ k, weight n t c k = ((256 * w k : ℝ) : EReal) := by
    intro k
    have e8 : (8 : EReal) = ((8 : ℝ) : EReal) := rfl
    rw [weight, mt, hc, e8, ← EReal.coe_mul, ← EReal.coe_sub]
    by_cases h : vis k
    · rw [tv _ h, ← EReal.coe_mul, ← EReal.coe_sub, Ideal.exp2_coe, EReal.coe_eq_coe_iff]
      simp only [w, if_pos h]
      show (2 : ℝ) ^ (_ : ℝ) = _
      have e : u k * (q * (1 / 16 * (Real.log 2)⁻¹)) - (u k0 * (q * (1 / 16 * (Real.log 2)⁻¹)) - 8)
          = 8 + (u k - u k0) * q * (1 / 16) * (Real.log 2)⁻¹ := by ring
      rw [e, Real.rpow_add (by norm_num), Real.rpow_def_of_pos (by norm_num) ((u k - u k0) * q * (1 / 16) * (Real.log 2)⁻¹)]
      congr 1
      · norm_num
      · congr 1; field_simp
    · rw [tn _ h, EReal.bot_mul_coe_of_pos hcp, EReal.bot_sub, Ideal.exp2_bot]
      simp only [w, if_neg h, mul_zero, EReal.coe_zero]
  have w0 : ∀ k, n ≤ k → w k = 0 := fun k h => if_neg (hlt k h)
  have wp : ∀ k, 0 ≤ w k := fun k => by
    simp only [w]; split
    · positivity
    · exact le_rfl
  have hW : 0 < ∑ k : Fin 640, w k := by
    refine Finset.sum_pos' (fun k _ => wp k) ⟨⟨k0, by omega⟩, Finset.mem_univ _, ?_⟩
    simp only [w, if_pos hk0.2]; positivity
  have e256 : (256 : EReal) = ((256 : ℝ) : EReal) := rfl
  unfold att softRow
  simp only [ew, eW, hV, clip_coe, e256, ← EReal.coe_mul, coe_sum]
  rw [sum_extend n hn (fun k => v k * min 448 (max (-448) (256 * w k))) (fun k h => by simp [w0 k h]),
    sum_extend n hn (fun k => 256 * w k) (fun k h => by simp [w0 k h]), ← Finset.mul_sum]
  have hne : (256 * ∑ k : Fin 640, w k) ≠ 0 := by positivity
  rw [Ideal.div_coe hne, Ideal.div_coe hne, one_mul]
  congr 2
  refine Finset.sum_congr rfl fun k _ => ?_
  rw [mul_comm (w k) 256, mul_comm (v k)]

end Cert.Fp8

end
-- ==== Proof.RefAtt.lean ====
module

public import proofs.«01_k».proof.Proof.RefQuant
public import proofs.«01_k».proof.Proof.Soft

@[expose] public section

set_option maxRecDepth 16384

noncomputable section

/-! The reference's attention at an index. -/

namespace Cert.Fp8.Ref

open Idealize.ShloMosaic Idealize.ShloMosaic.TcCoe Cert.ReferenceIdeal Cert.ReferenceIdeal.Gen

variable {α : Type}

/-- The heads split in groups of six. -/
theorem rd_group {D : ℕ} (a : (⟨4, ![3, 640, 12, D]⟩ : Shape).Idx → α) (h : (⟨4, ![3, 640, 12, D]⟩ : Shape).ShapeCasts ⟨5, ![3, 640, 2, 6, D]⟩)
    (b : Fin 3) (r : Fin 640) (g : Fin 2) (i : Fin 6) (d : Fin D) :
    shapeCast ⟨5, ![3, 640, 2, 6, D]⟩ a h (ix5 b r g i d) = a (ix4 b r ⟨6 * g.val + i.val, by omega⟩ d) :=
  shapeCast_apply _ _ _ _ (by
    rw [Shape.rowMajor_val_four, Shape.rowMajor_val_five]
    show ((b.val * 640 + r.val) * 12 + (6 * g.val + i.val)) * D + d.val = (((b.val * 640 + r.val) * 2 + g.val) * 6 + i.val) * D + d.val
    ring)

/-- The scales split in groups of six heads. -/
theorem rd_group1 (a : S3x640x12x1.Idx → α) (h : S3x640x12x1.ShapeCasts S3x640x2x6)
    (b : Fin 3) (r : Fin 640) (g : Fin 2) (i : Fin 6) :
    shapeCast S3x640x2x6 a h (ix4 b r g i) = a (ix4 b r ⟨6 * g.val + i.val, by omega⟩ 0) :=
  shapeCast_apply _ _ _ _ (by
    rw [Shape.rowMajor_val_four, Shape.rowMajor_val_four]
    show ((b.val * 640 + r.val) * 12 + (6 * g.val + i.val)) * 1 + 0 = ((b.val * 640 + r.val) * 2 + g.val) * 6 + i.val
    omega)

/-- The transpose of the query codes, at an index. -/
theorem tr_q (a : S3x640x2x6x256.Idx → α) (h) (b : Fin 3) (r : Fin 640) (g : Fin 2) (i : Fin 6) (d : Fin 256) :
    transpose S3x2x6x640x256 [0, 2, 3, 1, 4] a h (ix5 b g i r d) = a (ix5 b r g i d) :=
  transpose_apply _ _ _ _ _ fun x => by
    match x with
    | ⟨0, _⟩ => rfl
    | ⟨1, _⟩ => rfl
    | ⟨2, _⟩ => rfl
    | ⟨3, _⟩ => rfl
    | ⟨4, _⟩ => rfl

/-- The transpose of the query scales, at an index. -/
theorem tr_qs (a : S3x640x2x6.Idx → α) (h) (b : Fin 3) (r : Fin 640) (g : Fin 2) (i : Fin 6) :
    transpose S3x2x6x640 [0, 2, 3, 1] a h (ix4 b g i r) = a (ix4 b r g i) :=
  transpose_apply _ _ _ _ _ fun x => by
    match x with
    | ⟨0, _⟩ => rfl
    | ⟨1, _⟩ => rfl
    | ⟨2, _⟩ => rfl
    | ⟨3, _⟩ => rfl

/-- The transpose of the key codes, at an index. -/
theorem tr_k (a : S3x640x2x256.Idx → α) (h) (b : Fin 3) (r : Fin 640) (g : Fin 2) (d : Fin 256) :
    transpose S3x2x640x256 [0, 2, 1, 3] a h (ix4 b g r d) = a (ix4 b r g d) :=
  transpose_apply _ _ _ _ _ fun x => by
    match x with
    | ⟨0, _⟩ => rfl
    | ⟨1, _⟩ => rfl
    | ⟨2, _⟩ => rfl
    | ⟨3, _⟩ => rfl

/-- The transpose of the key scales, at an index. -/
theorem tr_ks (a : S3x640x2.Idx → α) (h) (b : Fin 3) (r : Fin 640) (g : Fin 2) :
    transpose S3x2x640 [0, 2, 1] a h (ix3 b g r) = a (ix3 b r g) :=
  transpose_apply _ _ _ _ _ fun x => by
    match x with
    | ⟨0, _⟩ => rfl
    | ⟨1, _⟩ => rfl
    | ⟨2, _⟩ => rfl

/-- The transpose of the output, at an index. -/
theorem tr_o (a : S3x2x6x640x256.Idx → α) (h) (b : Fin 3) (r : Fin 640) (g : Fin 2) (i : Fin 6) (d : Fin 256) :
    transpose S3x640x2x6x256 [0, 3, 1, 2, 4] a h (ix5 b r g i d) = a (ix5 b g i r d) :=
  transpose_apply _ _ _ _ _ fun x => by
    match x with
    | ⟨0, _⟩ => rfl
    | ⟨1, _⟩ => rfl
    | ⟨2, _⟩ => rfl
    | ⟨3, _⟩ => rfl
    | ⟨4, _⟩ => rfl

/-- Batch and group folded to six, head and row folded to 3840. -/
theorem rd_fold {D : ℕ} (a : (⟨5, ![3, 2, 6, 640, D]⟩ : Shape).Idx → α) (h : (⟨5, ![3, 2, 6, 640, D]⟩ : Shape).ShapeCasts ⟨3, ![6, 3840, D]⟩)
    (b : Fin 3) (g : Fin 2) (i : Fin 6) (r : Fin 640) (d : Fin D) :
    shapeCast ⟨3, ![6, 3840, D]⟩ a h (ix3 ⟨2 * b.val + g.val, by omega⟩ ⟨640 * i.val + r.val, by omega⟩ d) = a (ix5 b g i r d) :=
  shapeCast_apply _ _ _ _ (by
    rw [Shape.rowMajor_val_three, Shape.rowMajor_val_five]
    show (((b.val * 2 + g.val) * 6 + i.val) * 640 + r.val) * D + d.val = ((2 * b.val + g.val) * 3840 + (640 * i.val + r.val)) * D + d.val
    ring)

/-- Splitting batch from group and head from row, at an index. -/
theorem rd_unfold {D : ℕ} (a : (⟨3, ![6, 3840, D]⟩ : Shape).Idx → α) (h : (⟨3, ![6, 3840, D]⟩ : Shape).ShapeCasts ⟨5, ![3, 2, 6, 640, D]⟩)
    (b : Fin 3) (g : Fin 2) (i : Fin 6) (r : Fin 640) (d : Fin D) :
    shapeCast ⟨5, ![3, 2, 6, 640, D]⟩ a h (ix5 b g i r d) = a (ix3 ⟨2 * b.val + g.val, by omega⟩ ⟨640 * i.val + r.val, by omega⟩ d) :=
  shapeCast_apply _ _ _ _ (by
    rw [Shape.rowMajor_val_three, Shape.rowMajor_val_five]
    show ((2 * b.val + g.val) * 3840 + (640 * i.val + r.val)) * D + d.val = (((b.val * 2 + g.val) * 6 + i.val) * 640 + r.val) * D + d.val
    ring)

/-- Merging batch and group, at an index. -/
theorem rd_foldk (a : S3x2x640x256.Idx → α) (h : S3x2x640x256.ShapeCasts S6x640x256) (b : Fin 3) (g : Fin 2) (k : Fin 640) (d : Fin 256) :
    shapeCast S6x640x256 a h (ix3 ⟨2 * b.val + g.val, by omega⟩ k d) = a (ix4 b g k d) :=
  shapeCast_apply _ _ _ _ (by
    rw [Shape.rowMajor_val_three, Shape.rowMajor_val_four]
    show ((b.val * 2 + g.val) * 640 + k.val) * 256 + d.val = ((2 * b.val + g.val) * 640 + k.val) * 256 + d.val
    ring)

/-- Adding a last unit axis, at an index. -/
theorem rd_unit5 (a : S3x2x6x640.Idx → α) (h : S3x2x6x640.ShapeCasts S3x2x6x640x1) (b : Fin 3) (g : Fin 2) (i : Fin 6) (r : Fin 640) (l : Fin 1) :
    shapeCast S3x2x6x640x1 a h (ix5 b g i r l) = a (ix4 b g i r) :=
  shapeCast_apply _ _ _ _ (by
    rw [Shape.rowMajor_val_five, Shape.rowMajor_val_four]
    show ((b.val * 2 + g.val) * 6 + i.val) * 640 + r.val = (((b.val * 2 + g.val) * 6 + i.val) * 640 + r.val) * 1 + l.val
    omega)

/-- Adding two unit axes to the key scales, at an index. -/
theorem rd_ks5 (a : S3x2x640.Idx → α) (h : S3x2x640.ShapeCasts S3x2x1x1x640) (b : Fin 3) (g : Fin 2) (k : Fin 640) :
    shapeCast S3x2x1x1x640 a h (ix5 b g 0 0 k) = a (ix3 b g k) :=
  shapeCast_apply _ _ _ _ (by
    rw [Shape.rowMajor_val_five, Shape.rowMajor_val_three]
    show (b.val * 2 + g.val) * 640 + k.val = (((b.val * 2 + g.val) * 1 + 0) * 1 + 0) * 640 + k.val
    omega)

/-- Repeating a row quantity along the row, at an index. -/
theorem bc_row {D : ℕ} (a : S3x2x6x640x1.Idx → α) (h : S3x2x6x640x1.Broadcasts ⟨5, ![3, 2, 6, 640, D]⟩)
    (b : Fin 3) (g : Fin 2) (i : Fin 6) (r : Fin 640) (k : Fin D) :
    broadcastTo ⟨5, ![3, 2, 6, 640, D]⟩ a h (ix5 b g i r k) = a (ix5 b g i r 0) :=
  broadcastTo_apply _ _ _ _ fun x => by
    match x with
    | ⟨0, _⟩ => rfl
    | ⟨1, _⟩ => rfl
    | ⟨2, _⟩ => rfl
    | ⟨3, _⟩ => rfl
    | ⟨4, _⟩ => rfl

/-- Repeating the key scales over heads and rows, at an index. -/
theorem bc_ks (a : S3x2x1x1x640.Idx → α) (h : S3x2x1x1x640.Broadcasts S3x2x6x640x640)
    (b : Fin 3) (g : Fin 2) (i : Fin 6) (r k : Fin 640) :
    broadcastTo S3x2x6x640x640 a h (ix5 b g i r k) = a (ix5 b g 0 0 k) :=
  broadcastTo_apply _ _ _ _ fun x => by
    match x with
    | ⟨0, _⟩ => rfl
    | ⟨1, _⟩ => rfl
    | ⟨2, _⟩ => rfl
    | ⟨3, _⟩ => rfl
    | ⟨4, _⟩ => rfl

/-- Repeating the mask over the heads, at an index. -/
theorem bc_mask (a : S3x1x1x640x640.Idx → α) (h : S3x1x1x640x640.Broadcasts S3x2x6x640x640)
    (b : Fin 3) (g : Fin 2) (i : Fin 6) (r k : Fin 640) :
    broadcastTo S3x2x6x640x640 a h (ix5 b g i r k) = a (ix5 b 0 0 r k) :=
  broadcastTo_apply _ _ _ _ fun x => by
    match x with
    | ⟨0, _⟩ => rfl
    | ⟨1, _⟩ => rfl
    | ⟨2, _⟩ => rfl
    | ⟨3, _⟩ => rfl
    | ⟨4, _⟩ => rfl

/-- Adding the unit axes of the heads to the mask, at an index. -/
theorem rd_mask (a : S3x640x640.Idx → α) (h : S3x640x640.ShapeCasts S3x1x1x640x640) (b : Fin 3) (r k : Fin 640) :
    shapeCast S3x1x1x640x640 a h (ix5 b 0 0 r k) = a (ix3 b r k) :=
  shapeCast_apply _ _ _ _ (by
    rw [Shape.rowMajor_val_five, Shape.rowMajor_val_three]
    show (b.val * 640 + r.val) * 640 + k.val = (((b.val * 1 + 0) * 1 + 0) * 640 + r.val) * 640 + k.val
    omega)

/-- A reshape to the same shape, at an index. -/
theorem rd_same (a : S3x1x1x640x640.Idx → α) (h : S3x1x1x640x640.ShapeCasts S3x1x1x640x640) (x) :
    shapeCast S3x1x1x640x640 a h x = a x := shapeCast_apply _ _ _ _ rfl

/-- The segment of the row, spread over the keys, at an index. -/
theorem rd_segr (a : S3x640.Idx → α) (h : S3x640.ShapeCasts S3x640x1) (h2 : S3x640x1.Broadcasts S3x640x640) (b : Fin 3) (r k : Fin 640) :
    broadcastTo S3x640x640 (shapeCast S3x640x1 a h) h2 (ix3 b r k) = a (ix2 b r) :=
  (broadcastTo_apply _ _ _ (ix3 b r 0) fun x => by
    match x with
    | ⟨0, _⟩ => rfl
    | ⟨1, _⟩ => rfl
    | ⟨2, _⟩ => rfl).trans (shapeCast_apply _ _ _ _ (by
    rw [Shape.rowMajor_val_two, Shape.rowMajor_val_three]
    show b.val * 640 + r.val = (b.val * 640 + r.val) * 1 + 0
    omega))

/-- The segment of the key, spread over the rows, at an index. -/
theorem rd_segk (a : S3x640.Idx → α) (h : S3x640.ShapeCasts S3x1x640) (h2 : S3x1x640.Broadcasts S3x640x640) (b : Fin 3) (r k : Fin 640) :
    broadcastTo S3x640x640 (shapeCast S3x1x640 a h) h2 (ix3 b r k) = a (ix2 b k) :=
  (broadcastTo_apply _ _ _ (ix3 b 0 k) fun x => by
    match x with
    | ⟨0, _⟩ => rfl
    | ⟨1, _⟩ => rfl
    | ⟨2, _⟩ => rfl).trans (shapeCast_apply _ _ _ _ (by
    rw [Shape.rowMajor_val_two, Shape.rowMajor_val_three]
    show b.val * 640 + k.val = (b.val * 1 + 0) * 640 + k.val
    omega))

/-- Merging group, head and lane into a column, at an index. -/
theorem rd_merge (a : S3x640x2x6x256.Idx → α) (h : S3x640x2x6x256.ShapeCasts S3x640x3072) (b : Fin 3) (r : Fin 640) (g : Fin 2) (i : Fin 6) (d : Fin 256)
    (k : Fin 3072) (hk : k.val = (g.val * 6 + i.val) * 256 + d.val) :
    shapeCast S3x640x3072 a h (ix3 b r k) = a (ix5 b r g i d) :=
  shapeCast_apply _ _ _ _ (by
    rw [Shape.rowMajor_val_five, Shape.rowMajor_val_three]
    show (((b.val * 640 + r.val) * 2 + g.val) * 6 + i.val) * 256 + d.val = (b.val * 640 + r.val) * 3072 + k.val
    omega)

/-- The first product: each of six batches, contracting the 256 lanes. -/
theorem mm_qk {φ ψ : FTy} (L : FVec Ideal S6x3840x256 φ) (R : FVec Ideal S6x640x256 ψ) (n : Fin 6) (q : Fin 3840) (k : Fin 640) :
    matmul dot_S6x3840x256_S6x640x256_S6x3840x640_2_2_1_1_0_0 none L R (constant S6x3840x640 .f32 0x00000000#32) (ix3 n q k)
      = ∑ d : Fin 256, L (ix3 n q d) * R (ix3 n k d) := by
  pointwise

/-- The second product: each of six batches, contracting the 640 keys. -/
theorem mm_pv {φ ψ : FTy} (L : FVec Ideal S6x3840x640 φ) (R : FVec Ideal S6x640x256 ψ) (n : Fin 6) (q : Fin 3840) (d : Fin 256) :
    matmul dot_S6x3840x640_S6x640x256_S6x3840x256_2_1_1_2_0_0 none L R (constant S6x3840x256 .f32 0x00000000#32) (ix3 n q d)
      = ∑ k : Fin 640, L (ix3 n q k) * R (ix3 n k d) := by
  pointwise

end Cert.Fp8.Ref

end
-- ==== Proof.RefSoft.lean ====
module

public import proofs.«01_k».proof.Proof.RefAtt

@[expose] public section

set_option maxRecDepth 16384

noncomputable section

/-! The reference's scores and softmax at an index. -/

namespace Cert.Fp8.Ref

open Idealize.ShloMosaic Idealize.ShloMosaic.TcCoe Cert.ReferenceIdeal Cert.ReferenceIdeal.Gen

/-- A product, at an index. -/
theorem rd_mulf {s : Shape} {φ : FTy} (x y : FVec Ideal s φ) (i : s.Idx) : mulf x y i = (x i * y i : EReal) := rfl
/-- A difference, at an index. -/
theorem rd_subf {s : Shape} {φ : FTy} (x y : FVec Ideal s φ) (i : s.Idx) : subf x y i = (x i - y i : EReal) := rfl
/-- A quotient, at an index. -/
theorem rd_divf {s : Shape} {φ : FTy} (x y : FVec Ideal s φ) (i : s.Idx) : divf x y i = Ideal.div (x i) (y i) := rfl
/-- An exponential, at an index. -/
theorem rd_exp {s : Shape} {φ : FTy} (x : FVec Ideal s φ) (i : s.Idx) : exp x i = Ideal.exp (x i) := rfl
/-- A minimum, at an index. -/
theorem rd_min {s : Shape} {φ : FTy} (x y : FVec Ideal s φ) (i : s.Idx) : minimumf x y i = (min (x i) (y i) : EReal) := rfl
/-- A maximum, at an index. -/
theorem rd_maxf {s : Shape} {φ : FTy} (x y : FVec Ideal s φ) (i : s.Idx) : maximumf x y i = (max (x i) (y i) : EReal) := rfl
/-- A constant array, at an index. -/
theorem rd_const {s : Shape} {α : Type} (x : α) (i : s.Idx) : broadcast s x i = x := rfl
/-- A choice, at an index. -/
theorem rd_select {s : Shape} {α : Type} (c : IVec s 1) (x y : s.Idx → α) (i : s.Idx) : select c x y i = if c i = 1#1 then x i else y i := rfl

/-- The maximum over the keys. -/
theorem rd_max5 (x : FVec Ideal S3x2x6x640x640 .f32) (h : S3x2x6x640x640.Reduces [4] S3x2x6x640) (hf) (hn)
    (b : Fin 3) (g : Fin 2) (i : Fin 6) (r : Fin 640) :
    multiReduction .maximumf [4] S3x2x6x640 x 0xFF800000#32 h hf hn (ix4 b g i r) = Finset.univ.fold max ⊥ fun k : Fin 640 => x (ix5 b g i r k) := by
  pointwise
  rw [ofBits_bot32]

/-- The sum over the keys. -/
theorem rd_sum5 (x : FVec Ideal S3x2x6x640x640 .f32) (h : S3x2x6x640x640.Reduces [4] S3x2x6x640) (hf) (hn)
    (b : Fin 3) (g : Fin 2) (i : Fin 6) (r : Fin 640) :
    multiReduction .add [4] S3x2x6x640 x 0x00000000#32 h hf hn (ix4 b g i r) = ∑ k : Fin 640, x (ix5 b g i r k) := by
  pointwise

/-- Which keys a row sees. -/
def mask (sg : IVec S3x640 32) : IVec S3x640x640 1 :=
  andi (cmpi .sge (iota .tc S3x640x640 32 [1] iota_S3x640x640_d1_w32) (iota .tc S3x640x640 32 [2] iota_S3x640x640_d2_w32))
    (cmpi .eq (broadcastTo S3x640x640 (shapeCast S3x640x1 sg shapeCasts_S3x640_S3x640x1) broadcasts_S3x640x1_S3x640x640)
      (broadcastTo S3x640x640 (shapeCast S3x1x640 sg shapeCasts_S3x640_S3x1x640) broadcasts_S3x1x640_S3x640x640))

/-- The mask: same segment and not later. -/
theorem mask_apply (sg : IVec S3x640 32) (b : Fin 3) (r k : Fin 640) :
    mask sg (ix3 b r k) = 1#1 ↔ (sg (ix2 b k) = sg (ix2 b r) ∧ k.val ≤ r.val) := by
  have e1 := rd_segr sg shapeCasts_S3x640_S3x640x1 broadcasts_S3x640x1_S3x640x640 b r k
  have e2 := rd_segk sg shapeCasts_S3x640_S3x1x640 broadcasts_S3x1x640_S3x640x640 b r k
  have e : mask sg (ix3 b r k) = IntOp.andi (IntOp.cmpi .sge (BitVec.ofNat 32 r.val) (BitVec.ofNat 32 k.val)) (IntOp.cmpi .eq (sg (ix2 b r)) (sg (ix2 b k))) := by
    rw [← e1, ← e2]
    unfold mask
    pointwise
  rw [e]
  have hr : (BitVec.ofNat 32 r.val).toInt = r.val := by
    rw [BitVec.toInt_eq_toNat_of_lt (by rw [BitVec.toNat_ofNat]; omega), BitVec.toNat_ofNat]; omega
  have hk : (BitVec.ofNat 32 k.val).toInt = k.val := by
    rw [BitVec.toInt_eq_toNat_of_lt (by rw [BitVec.toNat_ofNat]; omega), BitVec.toNat_ofNat]; omega
  have hge : IntOp.cmpi .sge (BitVec.ofNat 32 r.val) (BitVec.ofNat 32 k.val) = if k.val ≤ r.val then 1#1 else 0#1 := by
    unfold IntOp.cmpi
    have e : (BitVec.ofNat 32 k.val).sle (BitVec.ofNat 32 r.val) = decide (k.val ≤ r.val) := by
      rw [Bool.eq_iff_iff, BitVec.sle_iff_toInt_le, hr, hk, decide_eq_true_iff]
      norm_cast
    simp only [e]
    by_cases h : k.val ≤ r.val <;> simp [h]
  have heq : IntOp.cmpi .eq (sg (ix2 b r)) (sg (ix2 b k)) = if sg (ix2 b k) = sg (ix2 b r) then 1#1 else 0#1 := by
    unfold IntOp.cmpi
    by_cases h : sg (ix2 b k) = sg (ix2 b r)
    · simp [h]
    · have h' : ¬ sg (ix2 b r) = sg (ix2 b k) := fun e => h e.symm
      have e : (sg (ix2 b r) == sg (ix2 b k)) = false := beq_false_of_ne h'
      rw [if_neg h]
      simp only [e]
      rfl
  rw [hge, heq]
  by_cases h1 : k.val ≤ r.val <;> by_cases h2 : sg (ix2 b k) = sg (ix2 b r) <;> simp [h1, h2, IntOp.andi]

/-- The masked scores. -/
def scs (v114 v115 : FVec Ideal S3x2x6x640x640 .f32) (sg : IVec S3x640 32) : FVec Ideal S3x2x6x640x640 .f32 :=
  select (broadcastTo S3x2x6x640x640 (shapeCast S3x1x1x640x640 (shapeCast S3x1x1x640x640 (mask sg) shapeCasts_S3x640x640_S3x1x1x640x640) shapeCasts_S3x1x1x640x640_S3x1x1x640x640)
      broadcasts_S3x1x1x640x640_S3x2x6x640x640)
    (mulf (mulf v114 v115) (broadcast S3x2x6x640x640 (Scalar.ofBits .f32 0x3D800000#32 : Ideal .f32)))
    (broadcast S3x2x6x640x640 (Scalar.ofBits .f32 0xFF800000#32 : Ideal .f32))

/-- The constant with these bits, as a number. -/
theorem ofBits_16th : Ideal.ofBits .f32 0x3D800000#32 = ((1 / 16 : ℝ) : EReal) := by
  rw [ofBits_f32 _ 123 0 (by decide) (by norm_num) (by norm_num) (by norm_num)]
  congr 1; norm_num

/-- The constant with these bits, as a number. -/
theorem ofBits_256 : Ideal.ofBits .f32 0x43800000#32 = (256 : EReal) := by
  rw [ofBits_f32 _ 135 0 (by decide) (by norm_num) (by norm_num) (by norm_num)]
  rw [show (256 : EReal) = ((256 : ℝ) : EReal) from rfl]
  congr 1; norm_num

/-- The masked, scaled scores, at an index. -/
theorem scs_apply (v114 v115 sg) (b : Fin 3) (g : Fin 2) (i : Fin 6) (r k : Fin 640) :
    scs v114 v115 sg (ix5 b g i r k) = if sg (ix2 b k) = sg (ix2 b r) ∧ k.val ≤ r.val
      then v114 (ix5 b g i r k) * v115 (ix5 b g i r k) * ((1 / 16 : ℝ) : EReal) else ⊥ := by
  unfold scs
  rw [rd_select, bc_mask, rd_same, rd_mask, rd_mulf, rd_mulf, rd_const, rd_const]
  have e1 : (Scalar.ofBits .f32 0x3D800000#32 : Ideal .f32) = ((1 / 16 : ℝ) : EReal) := ofBits_16th
  have e2 : (Scalar.ofBits .f32 0xFF800000#32 : Ideal .f32) = (⊥ : EReal) := ofBits_bot32
  rw [e1, e2]
  exact if_congr (mask_apply sg b r k) rfl rfl

/-- The exponentials of the scores less their row's maximum. -/
def pexp (s : FVec Ideal S3x2x6x640x640 .f32) : FVec Ideal S3x2x6x640x640 .f32 :=
  exp (subf s (broadcastTo S3x2x6x640x640 (shapeCast S3x2x6x640x1
    (multiReduction .maximumf [4] S3x2x6x640 s 0xFF800000#32 reduces_S3x2x6x640x640_S3x2x6x640 (.inl rfl) rfl) shapeCasts_S3x2x6x640_S3x2x6x640x1)
    broadcasts_S3x2x6x640x1_S3x2x6x640x640))

/-- The unnormalised weights, at an index. -/
theorem pexp_apply (s) (b : Fin 3) (g : Fin 2) (i : Fin 6) (r k : Fin 640) :
    pexp s (ix5 b g i r k) = Ideal.exp (s (ix5 b g i r k) - Finset.univ.fold max ⊥ fun x : Fin 640 => s (ix5 b g i r x)) := by
  unfold pexp
  rw [rd_exp, rd_subf, bc_row (D := 640), rd_unit5]
  exact congrArg (fun z => Ideal.exp (s (ix5 b g i r k) - z)) (rd_max5 s _ _ _ b g i r)

/-- The row sums, as a column. -/
def psum (p : FVec Ideal S3x2x6x640x640 .f32) : FVec Ideal S3x2x6x640x1 .f32 :=
  shapeCast S3x2x6x640x1 (multiReduction .add [4] S3x2x6x640 p 0x00000000#32 reduces_S3x2x6x640x640_S3x2x6x640 (.inl rfl) rfl) shapeCasts_S3x2x6x640_S3x2x6x640x1

/-- The sum of a row of weights. -/
theorem psum_apply (p) (b : Fin 3) (g : Fin 2) (i : Fin 6) (r : Fin 640) (l : Fin 1) :
    psum p (ix5 b g i r l) = ∑ k : Fin 640, p (ix5 b g i r k) := by
  unfold psum
  rw [rd_unit5]
  exact rd_sum5 p _ _ _ b g i r

/-- The clipped codes of the weights, folded to six batches. -/
def pcode (p : FVec Ideal S3x2x6x640x640 .f32) : FVec Ideal S6x3840x640 .bf16 :=
  shapeCast S6x3840x640 (extf .bf16 (truncf .fp8e4m3 (minimumf (broadcast S3x2x6x640x640 (Scalar.ofBits .f32 0x43E00000#32 : Ideal .f32))
    (maximumf (broadcast S3x2x6x640x640 (Scalar.ofBits .f32 0xC3E00000#32 : Ideal .f32))
      (mulf p (broadcast S3x2x6x640x640 (Scalar.ofBits .f32 0x43800000#32 : Ideal .f32))))) bitsLt_fp8e4m3_f32 : FVec Ideal S3x2x6x640x640 .fp8e4m3) bitsLt_fp8e4m3_bf16)
    shapeCasts_S3x2x6x640x640_S6x3840x640

/-- The codes of the weights, at an index. -/
theorem pcode_apply (p) (b : Fin 3) (g : Fin 2) (i : Fin 6) (r k : Fin 640) :
    pcode p (ix3 ⟨2 * b.val + g.val, by omega⟩ ⟨640 * i.val + r.val, by omega⟩ k) = clip (p (ix5 b g i r k) * 256) := by
  unfold pcode
  rw [rd_fold (D := 640), rd_extf, rd_truncf, rd_min, rd_maxf, rd_mulf, rd_const, rd_const, rd_const]
  have e1 : (Scalar.ofBits .f32 0x43800000#32 : Ideal .f32) = (256 : EReal) := ofBits_256
  rw [e1]
  rfl

/-- The values folded to six batches. -/
def vfold (v : FVec Ideal S3x640x2x256 .bf16) : FVec Ideal S6x640x256 .bf16 :=
  shapeCast S6x640x256 (transpose S3x2x640x256 [0, 2, 1, 3] v transposes_S3x640x2x256_p0_2_1_3_S3x2x640x256) shapeCasts_S3x2x640x256_S6x640x256

/-- The scaled values with batch and group merged, at an index. -/
theorem vfold_apply (v) (b : Fin 3) (g : Fin 2) (k : Fin 640) (d : Fin 256) :
    vfold v (ix3 ⟨2 * b.val + g.val, by omega⟩ k d) = v (ix4 b k g d) := by
  unfold vfold
  rw [rd_foldk, tr_k]

/-- The attention from the weights and the values. -/
def fin (v : FVec Ideal S3x640x2x256 .bf16) (p : FVec Ideal S3x2x6x640x640 .f32) : FVec Ideal S3x640x3072 .bf16 :=
  shapeCast S3x640x3072 (transpose S3x640x2x6x256 [0, 3, 1, 2, 4] (truncf .bf16 (divf
    (shapeCast S3x2x6x640x256 (matmul dot_S6x3840x640_S6x640x256_S6x3840x256_2_1_1_2_0_0 none (pcode p) (vfold v) (constant S6x3840x256 .f32 0x00000000#32)) shapeCasts_S6x3840x256_S3x2x6x640x256)
    (broadcastTo S3x2x6x640x256 (mulf (broadcast S3x2x6x640x1 (Scalar.ofBits .f32 0x43800000#32 : Ideal .f32)) (psum p)) broadcasts_S3x2x6x640x1_S3x2x6x640x256))
    bitsLt_bf16_f32 : FVec Ideal S3x2x6x640x256 .bf16) transposes_S3x2x6x640x256_p0_3_1_2_4_S3x640x2x6x256) shapeCasts_S3x640x2x6x256_S3x640x3072

/-- The output from weights and values, at an index. -/
theorem fin_apply (v p) (b : Fin 3) (r : Fin 640) (g : Fin 2) (i : Fin 6) (d : Fin 256) (k : Fin 3072) (hk : k.val = (g.val * 6 + i.val) * 256 + d.val) :
    fin v p (ix3 b r k) = Ideal.div (∑ x : Fin 640, clip (p (ix5 b g i r x) * 256) * v (ix4 b x g d)) (256 * ∑ x : Fin 640, p (ix5 b g i r x)) := by
  unfold fin
  rw [rd_merge _ _ b r g i d k hk, tr_o, rd_truncf, rd_divf, rd_unfold (D := 256), mm_pv, bc_row (D := 256), rd_mulf, psum_apply, rd_const]
  have e1 : (Scalar.ofBits .f32 0x43800000#32 : Ideal .f32) = (256 : EReal) := ofBits_256
  rw [e1]
  simp only [pcode_apply, vfold_apply]

attribute [local irreducible] select shapeCast transpose broadcastTo multiReduction cmpi andi mulf maximumf minimumf extf truncf subf exp divf iota

/-- The body of the attention is the composition of the named steps. -/
theorem pay22_eq (v99 v114 v115 sg) : k0_pay22 (F := Ideal) v99 v114 v115 sg = fin v99 (pexp (scs v114 v115 sg)) := by
  unfold k0_pay22 fin pexp pcode psum vfold scs mask
  rfl

/-- The raw scores times the query scale, at an index. -/
theorem pay20_apply (v18 : FVec Ideal S3x640x12x1 .f32) (v28 : FVec Ideal S3x640x12x256 .fp8e4m3) (v57 : FVec Ideal S3x640x2x256 .fp8e4m3)
    (b : Fin 3) (g : Fin 2) (i : Fin 6) (r k : Fin 640) :
    k0_pay20 v18 v28 v57 (ix5 b g i r k) = (∑ d : Fin 256, v28 (ix4 b r ⟨6 * g.val + i.val, by omega⟩ d) * v57 (ix4 b k g d))
      * v18 (ix4 b r ⟨6 * g.val + i.val, by omega⟩ 0) := by
  unfold k0_pay20
  refine (rd_mulf _ _ _).trans ?_
  rw [rd_unfold (D := 640), mm_qk, bc_row (D := 640), rd_unit5, tr_qs, rd_group1]
  refine congrArg (· * _) (Finset.sum_congr rfl fun d _ => ?_)
  rw [rd_fold (D := 256), rd_foldk, tr_k, tr_q, rd_group (D := 256)]

/-- The key scales spread over the scores, at an index. -/
theorem pay21_apply (v47 : FVec Ideal S3x640x2x1 .f32) (b : Fin 3) (g : Fin 2) (i : Fin 6) (r k : Fin 640) :
    k0_pay21 v47 (ix5 b g i r k) = v47 (ix4 b k g 0) := by
  unfold k0_pay21
  refine (bc_ks _ _ b g i r k).trans ?_
  rw [rd_ks5, tr_ks]
  exact rd_drop (H := 2) v47 _ b k g

/-- The value codes times their scale, at an index. -/
theorem pay19_apply (v76 : FVec Ideal S3x640x2x1 .f32) (c : Ideal .f32) (v83 : FVec Ideal S3x640x2x256 .f32) (b : Fin 3) (r : Fin 640) (g : Fin 2) (d : Fin 256) :
    k0_pay19 v76 c v83 (ix4 b r g d) = (k0_pay15 c v83 (ix4 b r g d) * v76 (ix4 b r g 0) : EReal) := by
  unfold k0_pay19
  refine (rd_truncf (φ := .f32) (ψ := .bf16) _ _ _).trans ?_
  rw [rd_mulf, rd_extf, rd_bcast (H := 2) v76 _ (by decide)]

end Cert.Fp8.Ref

end
-- ==== Proof.Equal.lean ====
module

public import proofs.«01_k».proof.Proof.OutAtt
public import proofs.«01_k».proof.Proof.RefQuant
public import proofs.«01_k».proof.Proof.Soft

@[expose] public section

set_option maxRecDepth 16384

noncomputable section

/-! The kernel's values are the reference's, on tame tables. -/

namespace Cert.Fp8

open Idealize.ShloMosaic Cert.Fp8.Ref

/-- Every head's row of a table is tame, the least magnitude by its exponent field. -/
def TameTab (m H : ℕ) (T : ℕ → ℕ → EReal) : Prop :=
  ∀ h r, h < H → Tame (7 / 4 * (2 : ℝ) ^ ((m : ℤ) - 128)) (amx T r (256 * h))

/-- On tame tables the kernel's codes are the reference's. -/
theorem cod_eq {m H : ℕ} {T : ℕ → ℕ → EReal} (h10 : 10 ≤ m) (hm : m ≤ 135) (hT : TameTab m H T) (h r d : ℕ) (hh : h < H) :
    cod T h r d = rcod T h r d := by
  obtain ⟨s, -, -, h2, -, h4⟩ := tame_scale _ m h10 hm (hT h r hh)
  rw [cod, rcod, h2, h4]

/-- On tame tables the kernel's scales are the reference's. -/
theorem scl_eq {m H : ℕ} {T : ℕ → ℕ → EReal} (h10 : 10 ≤ m) (hm : m ≤ 135) (hT : TameTab m H T) (h r : ℕ) (hh : h < H) :
    scl T h r = rscl T h r := by
  obtain ⟨s, -, h1, -, h3, -⟩ := tame_scale _ m h10 hm (hT h r hh)
  rw [scl, rscl, h1, h3]

/-- On tame tables every scale is a real number, bounded below. -/
theorem scl_pos {m H : ℕ} {T : ℕ → ℕ → EReal} (h10 : 10 ≤ m) (hm : m ≤ 135) (hT : TameTab m H T) (h r : ℕ) (hh : h < H) :
    ∃ s : ℝ, (2 : ℝ) ^ ((m : ℤ) - 135) ≤ s ∧ scl T h r = (s : EReal) := by
  obtain ⟨s, h0, h1, -, -, -⟩ := tame_scale _ m h10 hm (hT h r hh)
  exact ⟨s, h0, h1⟩

/-- The constant with these bits, as a number. -/
theorem ofBits_tiny : Ideal.ofBits .f32 0x00800000#32 = (((2 : ℝ) ^ (-126 : ℤ) : ℝ) : EReal) := by
  rw [ofBits_f32 _ 1 0 (by decide) (by norm_num) (by norm_num) (by norm_num)]
  congr 1
  rw [show ((1 : ℕ) : ℤ) - 150 = -126 + (-23) by norm_num, zpow_add₀ (by norm_num)]
  norm_num

/-- The named constant is one sixteenth over the logarithm of two. -/
theorem log2e_eq : (Named.named Cert.KernelIdeal.κ "sm_log2e" 0x3DB8AA3B#32 : Ideal .f32) = ((1 / 16 * (Real.log 2)⁻¹ : ℝ) : EReal) := by
  simp [Named.named, Cert.KernelIdeal.κ]

/-- The kernel's exponent factor of a row: its scale times one sixteenth over the logarithm of two. -/
theorem cof_eq {T : ℕ → ℕ → EReal} (hT : TameTab 13 12 T) (h r : ℕ) (hh : h < 12) (q : ℝ) (hq : (2 : ℝ) ^ (((13 : ℕ) : ℤ) - 135) ≤ q) (hs : scl T h r = (q : EReal)) :
    cof T (r / 64) (h / 2) (h % 2 * 64 + r % 64) = ((q * (1 / 16 * (Real.log 2)⁻¹) : ℝ) : EReal) := by
  have hl : lane T (64 * (r / 64)) (h / 2) (h % 2 * 64 + r % 64) = (q : EReal) := by
    rw [← hs, lane, scl, if_pos (by omega)]
    rw [show 64 * (r / 64) + (h % 2 * 64 + r % 64) % 64 = r by omega, show 2 * (h / 2) + (h % 2 * 64 + r % 64) / 64 = h by omega]
  rw [cof, hl, log2e_eq, ofBits_tiny, ← EReal.coe_mul]
  refine max_eq_left (EReal.coe_le_coe_iff.2 ?_)
  have l1 : Real.log 2 ≤ 1 := by have := Real.log_le_sub_one_of_pos (show (0 : ℝ) < 2 by norm_num); linarith
  have l0 : 0 < Real.log 2 := Real.log_pos (by norm_num)
  have l2 : 1 ≤ (Real.log 2)⁻¹ := (one_le_inv₀ l0).2 l1
  have e : (2 : ℝ) ^ (-126 : ℤ) = (2 : ℝ) ^ (((13 : ℕ) : ℤ) - 135) * (1 / 16) := by
    rw [show (-126 : ℤ) = (((13 : ℕ) : ℤ) - 135) + (-4) by norm_num, zpow_add₀ (by norm_num)]; norm_num
  rw [e]
  refine mul_le_mul hq (by linarith) (by norm_num) (le_trans (by positivity) hq)

/-- The scores of a row as the reference spells them. -/
def rscore (SG : ℕ → BitVec 32) (X K : ℕ → ℕ → EReal) (h g r k : ℕ) : EReal :=
  if SG k = SG r ∧ k ≤ r then (∑ d : Fin 256, rcod X h r d.val * rcod K g k d.val) * rscl X h r * rscl K g k * ((1 / 16 : ℝ) : EReal) else ⊥

/-- The kernel's attention is the reference's. -/
theorem att_ref (SG : ℕ → BitVec 32) (X K V : ℕ → ℕ → EReal) (hX : TameTab 13 12 X) (hK : TameTab 10 2 K) (hV : TameTab 10 2 V)
    (r col : ℕ) (hr : r < 640) (hc : col < 3072) :
    attOut SG X K V r col = softRow (rscore SG X K (col / 256) (col / 256 / 6) r)
      (fun k => rcod V (col / 256 / 6) k (col % 256) * rscl V (col / 256 / 6) k) := by
  have hh : col / 256 < 12 := by omega
  have hg : col / 256 / 6 < 2 := by omega
  rw [attOut, outAt]
  generalize col / 256 = h at hh hg ⊢
  generalize h / 6 = g at hg ⊢
  generalize col % 256 = d0
  obtain ⟨q, hq, hqs⟩ := scl_pos (by norm_num) (by norm_num) hX h r hh
  have hq0 : 0 < q := lt_of_lt_of_le (by positivity) hq
  have hqc : ∀ d, ∃ x : ℝ, cod X h r d = (x : EReal) := fun d => clip_real _
  have hkc : ∀ k d, ∃ x : ℝ, cod K g k d = (x : EReal) := fun k d => clip_real _
  have hvc : ∀ k, ∃ x : ℝ, cod V g k d0 = (x : EReal) := fun k => clip_real _
  have hks : ∀ k, ∃ x : ℝ, scl K g k = (x : EReal) := fun k => by
    obtain ⟨s, -, e⟩ := scl_pos (by norm_num) (by norm_num) hK g k hg; exact ⟨s, e⟩
  have hvs : ∀ k, ∃ x : ℝ, scl V g k = (x : EReal) := fun k => by
    obtain ⟨s, -, e⟩ := scl_pos (by norm_num) (by norm_num) hV g k hg; exact ⟨s, e⟩
  choose qc eqc using hqc
  choose kc ekc using hkc
  choose vc evc using hvc
  choose ks eks using hks
  choose vs evs using hvs
  show att (64 * (r / 64 + 1)) (score (cod K g) (scl K g) (cod X h r) SG r) (cof X (r / 64) (h / 2) (h % 2 * 64 + r % 64)) (fun k => cod V g k d0 * scl V g k) = _
  rw [show (fun k => cod V g k d0 * scl V g k) = fun k => rcod V g k d0 * rscl V g k from
    funext fun k => by rw [cod_eq (by norm_num) (by norm_num) hV g k d0 hg, scl_eq (by norm_num) (by norm_num) hV g k hg]]
  refine att_eq_soft (64 * (r / 64 + 1)) r (by omega) (by omega) (fun k => SG k = SG r ∧ k ≤ r) ⟨rfl, le_rfl⟩ (fun k hk h' => by omega)
    (fun k => (∑ d : Fin 256, kc k d.val * qc d.val) * ks k) (fun k => vc k * vs k) q hq0 (score (cod K g) (scl K g) (cod X h r) SG r) (rscore SG X K h g r) (fun k => rcod V g k d0 * rscl V g k) _ (fun k => ?_) (fun k => ?_) ?_ (fun k => ?_)
  · rw [score]
    simp only [eqc, ekc, eks, ← EReal.coe_mul, coe_sum]
  · rw [rscore]
    refine if_congr Iff.rfl ?_ rfl
    rw [← scl_eq (by norm_num) (by norm_num) hX h r hh, ← scl_eq (by norm_num) (by norm_num) hK g k hg, hqs, eks]
    have : ∀ d : Fin 256, rcod X h r d.val * rcod K g k d.val = ((kc k d.val * qc d.val : ℝ) : EReal) := fun d => by
      rw [← cod_eq (by norm_num) (by norm_num) hX h r d.val hh, ← cod_eq (by norm_num) (by norm_num) hK g k d.val hg, eqc, ekc, ← EReal.coe_mul, mul_comm]
    simp only [this, coe_sum, ← EReal.coe_mul]
    rw [EReal.coe_eq_coe_iff]
    ring
  · exact cof_eq hX h r hh q hq hqs
  · rw [← cod_eq (by norm_num) (by norm_num) hV g k d0 hg, ← scl_eq (by norm_num) (by norm_num) hV g k hg, evc, evs, ← EReal.coe_mul]

end Cert.Fp8

end
-- ==== Proof.RefVal.lean ====
module

public import proofs.«01_k».proof.Proof.RefSoft
public import proofs.«01_k».proof.Proof.Equal

@[expose] public section

set_option maxRecDepth 16384

noncomputable section

/-! Every result of the reference at an index. -/

namespace Cert.Fp8.Ref

open Idealize.ShloMosaic Idealize.ShloMosaic.TcCoe Cert.ReferenceIdeal Cert.ReferenceIdeal.Gen

attribute [local irreducible] k0_pay1 k0_pay2 k0_pay3 k0_pay4 k0_pay5 k0_pay6 k0_pay7 k0_pay8 k0_pay9 k0_pay10 k0_pay11 k0_pay12 k0_pay13 k0_pay14 k0_pay15
  k0_pay16 k0_pay17 k0_pay18 k0_pay19 k0_pay20 k0_pay21 k0_pay22

variable (a0 : Vec Ideal S3x640x3072 .bf16) (a1 a2 : Vec Ideal S3x640x512 .bf16) (a3 : Vec Ideal S3x640 .i32) (X K V : ℕ → ℕ → ℕ → EReal) (S : ℕ → ℕ → BitVec 32)
  (hX : ∀ b r k, a0 (ix3 b r k) = X b.val r.val k.val) (hK : ∀ b r k, a1 (ix3 b r k) = K b.val r.val k.val)
  (hV : ∀ b r k, a2 (ix3 b r k) = V b.val r.val k.val) (hS : ∀ b r, a3 (ix2 b r) = S b.val r.val)

include hX hK hV hS

/-- The attention. -/
theorem g4 (b : Fin 3) (r : Fin 640) (k : Fin 3072) : G4 a0 a1 a2 a3 (ix3 b r k)
    = softRow (rscore (S b.val) (X b.val) (K b.val) (k.val / 256) (k.val / 256 / 6) r.val)
      (fun x => rcod (V b.val) (k.val / 256 / 6) x (k.val % 256) * rscl (V b.val) (k.val / 256 / 6) x) := by
  have hk := k.isLt
  unfold G4
  rw [pay22_eq]
  have e4 : k.val / 256 = 6 * (k.val / 256 / 6) + k.val / 256 % 6 := by omega
  have e := fin_apply (k0_pay19 (k0_pay13 a2) (Scalar.ofBits .f32 0x43E00000#32) (k0_pay14 a2)) (pexp (scs (k0_pay20 (k0_pay3 a0) (k0_pay4 a0) (k0_pay10 (k0_pay5 a1) (k0_pay6 a1) (k0_pay7 a1) (Scalar.ofBits .f32 0x3F800000#32)))
    (k0_pay21 (k0_pay9 (k0_pay6 a1) (k0_pay7 a1) (Scalar.ofBits .f32 0x3F800000#32))) a3)) b r ⟨k.val / 256 / 6, by omega⟩ ⟨k.val / 256 % 6, by omega⟩ ⟨k.val % 256, by omega⟩ k
    (show k.val = (k.val / 256 / 6 * 6 + k.val / 256 % 6) * 256 + k.val % 256 by omega)
  refine e.trans ?_
  have es : ∀ x : Fin 640, scs (k0_pay20 (k0_pay3 a0) (k0_pay4 a0) (k0_pay10 (k0_pay5 a1) (k0_pay6 a1) (k0_pay7 a1) (Scalar.ofBits .f32 0x3F800000#32)))
      (k0_pay21 (k0_pay9 (k0_pay6 a1) (k0_pay7 a1) (Scalar.ofBits .f32 0x3F800000#32))) a3 (ix5 b ⟨k.val / 256 / 6, by omega⟩ ⟨k.val / 256 % 6, by omega⟩ r x)
      = rscore (S b.val) (X b.val) (K b.val) (k.val / 256) (k.val / 256 / 6) r.val x.val := by
    intro x
    rw [scs_apply, rscore, pay20_apply, pay21_apply, pay9_apply a1 K hK, pay3_apply a0 X hX, hS, hS]
    simp only [pay4_apply a0 X hX, pay10_apply a1 K hK]
    rw [← e4]
  have ev : ∀ x : Fin 640, k0_pay19 (k0_pay13 a2) (Scalar.ofBits .f32 0x43E00000#32) (k0_pay14 a2) (ix4 b x ⟨k.val / 256 / 6, by omega⟩ ⟨k.val % 256, by omega⟩)
      = rcod (V b.val) (k.val / 256 / 6) x.val (k.val % 256) * rscl (V b.val) (k.val / 256 / 6) x.val := by
    intro x
    rw [pay19_apply, pay15_apply a2 V hV, pay13_apply a2 V hV]
  simp only [pexp_apply, es, ev]
  rfl

/-- The query codes. -/
theorem g5 (b : Fin 3) (r : Fin 640) (h : Fin 12) (d : Fin 256) : G5 a0 a1 a2 a3 (ix4 b r h d) = rcod (X b.val) h.val r.val d.val := by
  unfold G5; exact pay4_apply a0 X hX b r h d

/-- The query scales. -/
theorem g6 (b : Fin 3) (r : Fin 640) (h : Fin 12) : G6 a0 a1 a2 a3 (ix3 b r h) = rscl (X b.val) h.val r.val := by
  unfold G6; exact pay16_apply a0 X hX b r h

/-- The key codes. -/
theorem g7 (b : Fin 3) (r : Fin 640) (h : Fin 2) (d : Fin 256) : G7 a0 a1 a2 a3 (ix4 b r h d) = rcod (K b.val) h.val r.val d.val := by
  unfold G7; exact pay10_apply a1 K hK b r h d

/-- The key scales. -/
theorem g8 (b : Fin 3) (r : Fin 640) (h : Fin 2) : G8 a0 a1 a2 a3 (ix3 b r h) = rscl (K b.val) h.val r.val := by
  unfold G8; exact pay17_apply a1 K hK b r h

/-- The value codes. -/
theorem g9 (b : Fin 3) (r : Fin 640) (h : Fin 2) (d : Fin 256) : G9 a0 a1 a2 a3 (ix4 b r h d) = rcod (V b.val) h.val r.val d.val := by
  unfold G9; exact pay15_apply a2 V hV b r h d

/-- The value scales. -/
theorem g10 (b : Fin 3) (r : Fin 640) (h : Fin 2) : G10 a0 a1 a2 a3 (ix3 b r h) = rscl (V b.val) h.val r.val := by
  unfold G10; exact pay18_apply a2 V hV b r h

end Cert.Fp8.Ref

end
-- ==== Proof.Tame.lean ====
module

public import proofs.«01_k».proof.Proof.RefRead
public import proofs.«01_k».proof.Pre_tame
public import Idealize.ShloMosaic.Lib.ReduceAll

@[expose] public section

set_option maxRecDepth 16384

noncomputable section

/-! What the precondition says of each row's largest magnitude. -/

namespace Cert.Fp8

open Idealize.ShloMosaic

/-- The largest magnitudes of an array's head rows, as the precondition computes them. -/
def hmax {H M : ℕ} (a : FVec Ideal ⟨3, ![3, 640, M]⟩ .bf16) (h0 : FTy.bf16.bits < FTy.f32.bits)
    (h1 : (⟨3, ![3, 640, M]⟩ : Shape).ShapeCasts ⟨4, ![3, 640, H, 256]⟩) (h2 : (⟨4, ![3, 640, H, 256]⟩ : Shape).ReducesTo [3] ⟨3, ![3, 640, H]⟩)
    (h3 : 0 < (⟨0, ![]⟩ : Shape).numel) : FVec Ideal ⟨3, ![3, 640, H]⟩ .f32 :=
  Host.reduce FloatOps.maximumf (Host.absf (shapeCast ⟨4, ![3, 640, H, 256]⟩ (extf .f32 a h0) h1)) (constant (⟨0, ![]⟩ : Shape) .f32 0xFF800000#32) h2 h3

/-- The largest magnitude of a head's row, at an index. -/
theorem hmax_apply {H M : ℕ} (a) (h0 h1 h2 h3) (hM : M = 256 * H) (T : ℕ → ℕ → ℕ → EReal) (hT : ∀ b r k, a (ix3 b r k) = T b.val r.val k.val)
    (b : Fin 3) (r : Fin 640) (g : Fin H) : hmax (M := M) a h0 h1 h2 h3 (ix3 b r g) = amx (T b.val) r.val (256 * g.val) := by
  have e : ∀ d : Fin 256, shapeCast ⟨4, ![3, 640, H, 256]⟩ (extf .f32 a h0 : FVec Ideal _ .f32) h1 (ix4 b r g d) = T b.val r.val (256 * g.val + d.val) := by
    intro d
    refine (Ref.rd_split (H := H) (M := M) _ _ b r g d ⟨256 * g.val + d.val, by have := g.isLt; have := d.isLt; omega⟩ rfl hM).trans ?_
    exact hT _ _ _
  unfold hmax
  generalize (shapeCast ⟨4, ![3, 640, H, 256]⟩ (extf .f32 a h0 : FVec Ideal _ .f32) h1 : FVec Ideal _ .f32) = x at e ⊢
  have e2 : Host.reduce FloatOps.maximumf (Host.absf x) (constant (⟨0, ![]⟩ : Shape) .f32 0xFF800000#32) h2 h3 (ix3 b r g)
      = Finset.univ.fold max ⊥ fun d : Fin 256 => mag (x (ix4 b r g d)) := by
    pointwise
    rw [Ref.ofBits_bot32]
    rfl
  rw [e2]
  simp only [e]
  rfl

/-- The precondition's test of the largest magnitudes. -/
def ok {H : ℕ} (m : FVec Ideal ⟨3, ![3, 640, H]⟩ .f32) (lo : BitVec 32) (h : (⟨0, ![]⟩ : Shape).BroadcastsInDim ⟨3, ![3, 640, H]⟩ ![]) : IVec ⟨3, ![3, 640, H]⟩ 1 :=
  andi (ori (cmpf .oeq m (broadcastInDim ⟨3, ![3, 640, H]⟩ ![] h (constant (⟨0, ![]⟩ : Shape) .f32 0x00000000#32)))
    (cmpf .oge m (broadcastInDim ⟨3, ![3, 640, H]⟩ ![] h (constant (⟨0, ![]⟩ : Shape) .f32 lo))))
    (cmpf .ole m (broadcastInDim ⟨3, ![3, 640, H]⟩ ![] h (constant (⟨0, ![]⟩ : Shape) .f32 0x7F7F0000#32)))

/-- What the test bit of a row says. -/
theorem ok_apply {H : ℕ} (m : FVec Ideal ⟨3, ![3, 640, H]⟩ .f32) (lo h x) (e : ok m lo h x = 1#1) :
    (m x = 0 ∨ Ideal.ofBits .f32 lo ≤ m x) ∧ m x ≤ Ideal.ofBits .f32 0x7F7F0000#32 := by
  have e1 : ok m lo h x = IntOp.andi (IntOp.ori (Ideal.cmp .oeq (m x) (Ideal.ofBits .f32 0x00000000#32)) (Ideal.cmp .oge (m x) (Ideal.ofBits .f32 lo)))
      (Ideal.cmp .ole (m x) (Ideal.ofBits .f32 0x7F7F0000#32)) := rfl
  rw [e1, Ideal.ofBits_zero_f32] at e
  have bits : ∀ p q s : Bool, IntOp.andi (IntOp.ori (BitVec.ofBool p) (BitVec.ofBool q)) (BitVec.ofBool s) = 1#1 → (p = true ∨ q = true) ∧ s = true := by decide
  rw [Ideal.cmp_oeq, Ideal.cmp_oge, Ideal.cmp_ole] at e
  have := bits _ _ _ e
  simpa only [decide_eq_true_eq] using this

/-- The constant with these bits, as a number. -/
theorem ofBits_big : Ideal.ofBits .f32 0x7F7F0000#32 = (((255 / 128 : ℝ) * (2 : ℝ) ^ (127 : ℤ) : ℝ) : EReal) := by
  rw [ofBits_f32 _ 254 8323072 (by decide) (by norm_num) (by norm_num) (by norm_num)]
  congr 1
  rw [show ((254 : ℕ) : ℤ) - 150 = 127 + (-23) by norm_num, zpow_add₀ (by norm_num)]
  norm_num

/-- The constant with these bits, as a number. -/
theorem ofBits_lox : Ideal.ofBits .f32 0x06600000#32 = ((7 / 4 * (2 : ℝ) ^ (((13 : ℕ) : ℤ) - 128) : ℝ) : EReal) := by
  rw [ofBits_f32 _ 12 6291456 (by decide) (by norm_num) (by norm_num) (by norm_num)]
  congr 1
  rw [show ((12 : ℕ) : ℤ) - 150 = (((13 : ℕ) : ℤ) - 128) + (-23) by norm_num, zpow_add₀ (by norm_num)]
  norm_num

/-- The constant with these bits, as a number. -/
theorem ofBits_lok : Ideal.ofBits .f32 0x04E00000#32 = ((7 / 4 * (2 : ℝ) ^ (((10 : ℕ) : ℤ) - 128) : ℝ) : EReal) := by
  rw [ofBits_f32 _ 9 6291456 (by decide) (by norm_num) (by norm_num) (by norm_num)]
  congr 1
  rw [show ((9 : ℕ) : ℤ) - 150 = (((10 : ℕ) : ℤ) - 128) + (-23) by norm_num, zpow_add₀ (by norm_num)]
  norm_num

/-- The test of a row gives a tame magnitude. -/
theorem tame_of (lo : ℝ) (a : EReal) (h : (a = 0 ∨ (lo : EReal) ≤ a) ∧ a ≤ Ideal.ofBits .f32 0x7F7F0000#32) : Tame lo a := by
  obtain ⟨h1 | h1, h2⟩ := h
  · exact .inl h1
  · right
    rw [ofBits_big] at h2
    induction a with
    | bot => exact absurd h1 (by simp)
    | top => exact absurd (top_le_iff.1 h2) (EReal.coe_ne_top _)
    | coe r =>
      refine ⟨r, rfl, by exact_mod_cast h1, lt_of_le_of_lt (by exact_mod_cast h2) ?_⟩
      rw [show (128 : ℤ) = 127 + 1 by norm_num, zpow_add₀ (by norm_num)]
      have : (0 : ℝ) < 2 ^ (127 : ℤ) := by positivity
      nlinarith

/-- The precondition, row by row. -/
theorem tame_rows [Cert.Pre_tame.Facts] (a0 : FVec Ideal ⟨3, ![3, 640, 3072]⟩ .bf16) (a1 a2 : FVec Ideal ⟨3, ![3, 640, 512]⟩ .bf16) (a3 : IVec ⟨2, ![3, 640]⟩ 32)
    (X K V : ℕ → ℕ → ℕ → EReal) (hX : ∀ b r k, a0 (ix3 b r k) = X b.val r.val k.val) (hK : ∀ b r k, a1 (ix3 b r k) = K b.val r.val k.val)
    (hV : ∀ b r k, a2 (ix3 b r k) = V b.val r.val k.val) (h : Cert.Pre_tame.fn (F := Ideal) a0 a1 a2 a3 = fun _ => 1#1) (b : Fin 3) (r : Fin 640) :
    (∀ g : Fin 12, Tame (7 / 4 * (2 : ℝ) ^ (((13 : ℕ) : ℤ) - 128)) (amx (X b.val) r.val (256 * g.val)))
      ∧ (∀ g : Fin 2, Tame (7 / 4 * (2 : ℝ) ^ (((10 : ℕ) : ℤ) - 128)) (amx (K b.val) r.val (256 * g.val)))
      ∧ (∀ g : Fin 2, Tame (7 / 4 * (2 : ℝ) ^ (((10 : ℕ) : ℤ) - 128)) (amx (V b.val) r.val (256 * g.val))) := by
  have e : Cert.Pre_tame.fn (F := Ideal) a0 a1 a2 a3 = andi (andi
      (Host.reduce IntOp.andi (ok (hmax (H := 12) a0 Cert.Pre_tame.Facts.bitsLt_bf16_f32 Cert.Pre_tame.Facts.shapeCasts_S3x640x3072_S3x640x12x256 Cert.Pre_tame.Facts.reducesTo_S3x640x12x256_S3x640x12_d3 Cert.Pre_tame.Facts.h_S_) 0x06600000#32 Cert.Pre_tame.Facts.bcast_S_S3x640x12) (constantI (⟨0, ![]⟩ : Shape) 1 1#1) Cert.Pre_tame.Facts.reducesTo_S3x640x12_S_d0_1_2 Cert.Pre_tame.Facts.h_S_)
      (Host.reduce IntOp.andi (ok (hmax (H := 2) a1 Cert.Pre_tame.Facts.bitsLt_bf16_f32 Cert.Pre_tame.Facts.shapeCasts_S3x640x512_S3x640x2x256 Cert.Pre_tame.Facts.reducesTo_S3x640x2x256_S3x640x2_d3 Cert.Pre_tame.Facts.h_S_) 0x04E00000#32 Cert.Pre_tame.Facts.bcast_S_S3x640x2) (constantI (⟨0, ![]⟩ : Shape) 1 1#1) Cert.Pre_tame.Facts.reducesTo_S3x640x2_S_d0_1_2 Cert.Pre_tame.Facts.h_S_))
      (Host.reduce IntOp.andi (ok (hmax (H := 2) a2 Cert.Pre_tame.Facts.bitsLt_bf16_f32 Cert.Pre_tame.Facts.shapeCasts_S3x640x512_S3x640x2x256 Cert.Pre_tame.Facts.reducesTo_S3x640x2x256_S3x640x2_d3 Cert.Pre_tame.Facts.h_S_) 0x04E00000#32 Cert.Pre_tame.Facts.bcast_S_S3x640x2) (constantI (⟨0, ![]⟩ : Shape) 1 1#1) Cert.Pre_tame.Facts.reducesTo_S3x640x2_S_d0_1_2 Cert.Pre_tame.Facts.h_S_) := by
    unfold Cert.Pre_tame.fn Cert.Pre_tame.fn_part1 Cert.Pre_tame.fn_part2 ok hmax
    rfl
  rw [e] at h
  have bits : ∀ p q : BitVec 1, IntOp.andi p q = 1#1 → p = 1#1 ∧ q = 1#1 := by decide
  have h0 := congrFun h (fun i => i.elim0)
  obtain ⟨h01, h2⟩ := bits _ _ h0
  obtain ⟨h0, h1⟩ := bits _ _ h01
  refine ⟨fun g => ?_, fun g => ?_, fun g => ?_⟩
  · have := ok_apply _ _ _ _ (Host.reduce_andi_all _ _ _ _ _ h0 (ix3 b r g))
    rw [hmax_apply (H := 12) (M := 3072) a0 _ _ _ _ rfl X hX, ofBits_lox] at this
    exact tame_of _ _ this
  · have := ok_apply _ _ _ _ (Host.reduce_andi_all _ _ _ _ _ h1 (ix3 b r g))
    rw [hmax_apply (H := 2) (M := 512) a1 _ _ _ _ rfl K hK, ofBits_lok] at this
    exact tame_of _ _ this
  · have := ok_apply _ _ _ _ (Host.reduce_andi_all _ _ _ _ _ h2 (ix3 b r g))
    rw [hmax_apply (H := 2) (M := 512) a2 _ _ _ _ rfl V hV, ofBits_lok] at this
    exact tame_of _ _ this

end Cert.Fp8

end
-- ==== Proof.Join.lean ====
module

public import proofs.«01_k».proof.Proof.Arr
public import proofs.«01_k».proof.Proof.RefVal
public import proofs.«01_k».proof.Proof.Tame

@[expose] public section

set_option maxRecDepth 16384

noncomputable section

/-! The reference's results as arrays: what the kernel returns. -/

namespace Cert.Fp8

open Idealize.ShloMosaic Cert.Fp8.Ref

/-- An array read at an index is its table read at the numbers. -/
theorem tab_at {n : ℕ} (a : (⟨3, ![3, 640, n]⟩ : Shape).Idx → EReal) (b : Fin 3) (r : Fin 640) (k : Fin n) : a (ix3 b r k) = tab a b.val r.val k.val := by
  rw [tab, dif_pos ⟨b.isLt, r.isLt, k.isLt⟩]; rfl

/-- The segment array read at an index is its table read at the numbers. -/
theorem segs_at (a : (⟨2, ![3, 640]⟩ : Shape).Idx → BitVec 32) (b : Fin 3) (r : Fin 640) : a (ix2 b r) = segs a b.val r.val := by
  rw [segs, dif_pos ⟨b.isLt, r.isLt⟩]; rfl

/-- Outside the array the largest magnitude is zero. -/
theorem amx_out {n : ℕ} (a : (⟨3, ![3, 640, n]⟩ : Shape).Idx → EReal) (b r c : ℕ) (hr : ¬ r < 640) : amx (tab a b) r c = 0 := by
  have e : ∀ k, tab a b r k = 0 := fun k => by rw [tab, dif_neg (fun h => hr h.2.1)]
  have m0 : mag 0 = 0 := by rw [mag, neg_zero, max_self]
  rw [amx]
  simp only [e, m0]
  refine le_antisymm ((Finset.fold_max_le _).2 ⟨bot_le, fun _ _ => le_rfl⟩) ((Finset.le_fold_max _).2 (Or.inr ⟨0, Finset.mem_univ _, le_rfl⟩))

section

variable (a0 : FVec Ideal ⟨3, ![3, 640, 3072]⟩ .bf16) (a1 a2 : FVec Ideal ⟨3, ![3, 640, 512]⟩ .bf16) (a3 : IVec ⟨2, ![3, 640]⟩ 32)

/-- The precondition, said of the tables. -/
theorem tame_tabs [Cert.Pre_tame.Facts] (h : Cert.Pre_tame.fn (F := Ideal) a0 a1 a2 a3 = fun _ => 1#1) (b : Fin 3) :
    TameTab 13 12 (tab (n := 3072) a0 b.val) ∧ TameTab 10 2 (tab (n := 512) a1 b.val) ∧ TameTab 10 2 (tab (n := 512) a2 b.val) := by
  refine ⟨fun g r hg => ?_, fun g r hg => ?_, fun g r hg => ?_⟩ <;> by_cases hr : r < 640
  · exact (tame_rows a0 a1 a2 a3 _ _ _ (tab_at a0) (tab_at a1) (tab_at a2) h b ⟨r, hr⟩).1 ⟨g, hg⟩
  · exact Or.inl (amx_out _ _ _ _ hr)
  · exact (tame_rows a0 a1 a2 a3 _ _ _ (tab_at a0) (tab_at a1) (tab_at a2) h b ⟨r, hr⟩).2.1 ⟨g, hg⟩
  · exact Or.inl (amx_out _ _ _ _ hr)
  · exact (tame_rows a0 a1 a2 a3 _ _ _ (tab_at a0) (tab_at a1) (tab_at a2) h b ⟨r, hr⟩).2.2 ⟨g, hg⟩
  · exact Or.inl (amx_out _ _ _ _ hr)

variable (ht : ∀ b : Fin 3, TameTab 13 12 (tab (n := 3072) a0 b.val) ∧ TameTab 10 2 (tab (n := 512) a1 b.val) ∧ TameTab 10 2 (tab (n := 512) a2 b.val))

include ht

/-- The reference's attention array is the kernel's. -/
theorem join4 : G4 a0 a1 a2 a3 = fun y : (⟨3, ![3, 640, 3072]⟩ : Shape).Idx =>
    attOut (segs a3 (y 0).val) (tab (n := 3072) a0 (y 0).val) (tab (n := 512) a1 (y 0).val) (tab (n := 512) a2 (y 0).val) (y 1).val (y 2).val := by
  funext y
  obtain ⟨hx, hk, hv⟩ := ht (y 0)
  refine ((congrArg (G4 a0 a1 a2 a3) (ValueIdx.eq_ix3 y)).trans (g4 a0 a1 a2 a3 _ _ _ _ (tab_at a0) (tab_at a1) (tab_at a2) (segs_at a3) (y 0) (y 1) (y 2))).trans ?_
  exact (att_ref _ _ _ _ hx hk hv _ _ (y 1).isLt (y 2).isLt).symm

/-- The query codes. -/
theorem join5 : G5 a0 a1 a2 a3 = fun y : (⟨4, ![3, 640, 12, 256]⟩ : Shape).Idx => cod (tab (n := 3072) a0 (y 0).val) (y 2).val (y 1).val (y 3).val := by
  funext y
  refine ((congrArg (G5 a0 a1 a2 a3) (ValueIdx.eq_ix4 y)).trans (g5 a0 a1 a2 a3 _ _ _ _ (tab_at a0) (tab_at a1) (tab_at a2) (segs_at a3) (y 0) (y 1) (y 2) (y 3))).trans ?_
  exact (cod_eq (by norm_num) (by norm_num) (ht (y 0)).1 _ _ _ (y 2).isLt).symm

/-- The query scales. -/
theorem join6 : G6 a0 a1 a2 a3 = fun y : (⟨3, ![3, 640, 12]⟩ : Shape).Idx => scl (tab (n := 3072) a0 (y 0).val) (y 2).val (y 1).val := by
  funext y
  refine ((congrArg (G6 a0 a1 a2 a3) (ValueIdx.eq_ix3 y)).trans (g6 a0 a1 a2 a3 _ _ _ _ (tab_at a0) (tab_at a1) (tab_at a2) (segs_at a3) (y 0) (y 1) (y 2))).trans ?_
  exact (scl_eq (by norm_num) (by norm_num) (ht (y 0)).1 _ _ (y 2).isLt).symm

/-- The key codes. -/
theorem join7 : G7 a0 a1 a2 a3 = fun y : (⟨4, ![3, 640, 2, 256]⟩ : Shape).Idx => cod (tab (n := 512) a1 (y 0).val) (y 2).val (y 1).val (y 3).val := by
  funext y
  refine ((congrArg (G7 a0 a1 a2 a3) (ValueIdx.eq_ix4 y)).trans (g7 a0 a1 a2 a3 _ _ _ _ (tab_at a0) (tab_at a1) (tab_at a2) (segs_at a3) (y 0) (y 1) (y 2) (y 3))).trans ?_
  exact (cod_eq (by norm_num) (by norm_num) (ht (y 0)).2.1 _ _ _ (y 2).isLt).symm

/-- The key scales. -/
theorem join8 : G8 a0 a1 a2 a3 = fun y : (⟨3, ![3, 640, 2]⟩ : Shape).Idx => scl (tab (n := 512) a1 (y 0).val) (y 2).val (y 1).val := by
  funext y
  refine ((congrArg (G8 a0 a1 a2 a3) (ValueIdx.eq_ix3 y)).trans (g8 a0 a1 a2 a3 _ _ _ _ (tab_at a0) (tab_at a1) (tab_at a2) (segs_at a3) (y 0) (y 1) (y 2))).trans ?_
  exact (scl_eq (by norm_num) (by norm_num) (ht (y 0)).2.1 _ _ (y 2).isLt).symm

/-- The value codes. -/
theorem join9 : G9 a0 a1 a2 a3 = fun y : (⟨4, ![3, 640, 2, 256]⟩ : Shape).Idx => cod (tab (n := 512) a2 (y 0).val) (y 2).val (y 1).val (y 3).val := by
  funext y
  refine ((congrArg (G9 a0 a1 a2 a3) (ValueIdx.eq_ix4 y)).trans (g9 a0 a1 a2 a3 _ _ _ _ (tab_at a0) (tab_at a1) (tab_at a2) (segs_at a3) (y 0) (y 1) (y 2) (y 3))).trans ?_
  exact (cod_eq (by norm_num) (by norm_num) (ht (y 0)).2.2 _ _ _ (y 2).isLt).symm

/-- The value scales. -/
theorem join10 : G10 a0 a1 a2 a3 = fun y : (⟨3, ![3, 640, 2]⟩ : Shape).Idx => scl (tab (n := 512) a2 (y 0).val) (y 2).val (y 1).val := by
  funext y
  refine ((congrArg (G10 a0 a1 a2 a3) (ValueIdx.eq_ix3 y)).trans (g10 a0 a1 a2 a3 _ _ _ _ (tab_at a0) (tab_at a1) (tab_at a2) (segs_at a3) (y 0) (y 1) (y 2))).trans ?_
  exact (scl_eq (by norm_num) (by norm_num) (ht (y 0)).2.2 _ _ (y 2).isLt).symm

end

end Cert.Fp8

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame
public import proofs.«01_k».proof.Proof.KernelRun
public import proofs.«01_k».proof.Proof.RefRun
public import proofs.«01_k».proof.Proof.Join
public import Idealize.ShloMosaic.Adequacy
public import Idealize.ShloMosaic.Init

@[expose] public section

noncomputable section

namespace Cert.Proof

open Idealize.ShloMosaic Idealize.SL.Sem Cert.Kernel

open Cert.Fp8 Cert.Fp8.Ref

attribute [local instance] Cert.Kernel.Gen.facts Cert.KernelIdeal.Gen.facts Cert.ReferenceIdeal.Gen.facts Cert.Pre_tame.Gen.facts

/-- Over the reals, on tame arguments, the kernel and the reference return the same seven arrays: the attention output and
the codes and scales of the queries, the keys and the values. -/
theorem algebraic : Cert.algebraic_KernelIdeal_ReferenceIdeal_pre_tame := by
  intro m g m' g' hpre harg
  refine ⟨fun c y => attOut (Sm m c (y 0).val) (Qm m c (y 0).val) (Km m c (y 0).val) (Vm m c (y 0).val) (y 1).val (y 2).val,
    fun c y => cod (Qm m c (y 0).val) (y 2).val (y 1).val (y 3).val, fun c y => scl (Qm m c (y 0).val) (y 2).val (y 1).val,
    fun c y => cod (Km m c (y 0).val) (y 2).val (y 1).val (y 3).val, fun c y => scl (Km m c (y 0).val) (y 2).val (y 1).val,
    fun c y => cod (Vm m c (y 0).val) (y 2).val (y 1).val (y 3).val, fun c y => scl (Vm m c (y 0).val) (y 2).val (y 1).val, ?_, ?_⟩
  · refine (θ_run _ _ _).mono (fun r h c => ?_) (θ_run_and (kernel_run m g) (Cert.KernelIdeal.Gen.unchanged (F := Ideal) m g))
    obtain ⟨h0, h1, h2, h3, h4, h5, h6⟩ := h.1 c
    exact ⟨h0, h1, h2, h3, h4, h5, h6, h.2 c⟩
  · refine (θ_run _ _ _).mono (fun r h c => ?_) (θ_run_and (ref_run m' g') (Cert.ReferenceIdeal.Gen.unchanged (F := Ideal) m' g'))
    obtain ⟨h0, h1, h2, h3, h4, h5, h6⟩ := h.1 c
    obtain ⟨e0, e1, e2, e3⟩ := harg c
    rw [e0, e1, e2, e3] at h0 h1 h2 h3 h4 h5 h6
    have ht := tame_tabs _ _ _ _ (hpre c)
    exact ⟨h0.trans (join4 _ _ _ _ ht), h1.trans (join5 _ _ _ _ ht), h2.trans (join6 _ _ _ _ ht), h3.trans (join7 _ _ _ _ ht),
      h4.trans (join8 _ _ _ _ ht), h5.trans (join9 _ _ _ _ ht), h6.trans (join10 _ _ _ _ ht), h.2 c⟩

/-- The programs run, leave their arguments as they were and come to rest; the idealized kernel is the printed one up
to its named constant; over the reals it returns what the reference returns. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement _ _ _ _ _ rfl, algebraic⟩

end Cert.Proof

end
